-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_edge_above_eps [hPre_first_edge_above_eps : Cert.Pre_first_edge_above_eps.Facts] (m : (ℓ : Loc Cert.KernelIdeal.nD Cert.KernelIdeal.τ Cert.KernelIdeal.sig) → Buf (Elt Ideal) ℓ) : Prop :=
  ∀ c : Dev Cert.KernelIdeal.nD,
    (Cert.Pre_first_edge_above_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_edge_above_eps [hPre_first_edge_above_eps : Cert.Pre_first_edge_above_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_edge_above_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_first_edge_above_eps [hKernelIdeal : Cert.KernelIdeal.Facts] [hPre_first_edge_above_eps : Cert.Pre_first_edge_above_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_edge_above_eps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_first_edge_above_eps [hReferenceIdeal : Cert.ReferenceIdeal.Facts] [hPre_first_edge_above_eps : Cert.Pre_first_edge_above_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_edge_above_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_first_edge_above_eps [hKernelIdeal : Cert.KernelIdeal.Facts] [hReferenceIdeal : Cert.ReferenceIdeal.Facts] [hPre_first_edge_above_eps : Cert.Pre_first_edge_above_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_edge_above_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_first_edge_above_eps : Cert.Pre_first_edge_above_eps.Facts),
    quiescent_Kernel (hKernel := hKernel)
    ∧ quiescent_KernelIdeal (hKernelIdeal := hKernelIdeal)
    ∧ quiescent_KernelIdeal_pre_first_edge_above_eps (hKernelIdeal := hKernelIdeal) (hPre_first_edge_above_eps := hPre_first_edge_above_eps)
    ∧ quiescent_ReferenceIdeal (hReferenceIdeal := hReferenceIdeal)
    ∧ quiescent_ReferenceIdeal_pre_first_edge_above_eps (hReferenceIdeal := hReferenceIdeal) (hPre_first_edge_above_eps := hPre_first_edge_above_eps)
    ∧ preserves_Kernel_KernelIdeal
    ∧ algebraic_KernelIdeal_ReferenceIdeal_pre_first_edge_above_eps (hKernelIdeal := hKernelIdeal) (hReferenceIdeal := hReferenceIdeal) (hPre_first_edge_above_eps := hPre_first_edge_above_eps)
-- ==== Pre_first_edge_above_eps.lean ====
abbrev S262144x16 : Shape := ⟨2, ![262144, 16]⟩
abbrev S56x64 : Shape := ⟨2, ![56, 64]⟩
abbrev S64 : Shape := ⟨1, ![64]⟩
abbrev S64x64 : Shape := ⟨2, ![64, 64]⟩
abbrev S64x168 : Shape := ⟨2, ![64, 168]⟩
abbrev S168 : Shape := ⟨1, ![168]⟩
abbrev S262144x8 : Shape := ⟨2, ![262144, 8]⟩
abbrev S_ : Shape := ⟨0, ![]⟩
abbrev S262144x56 : Shape := ⟨2, ![262144, 56]⟩
abbrev S262144x64 : Shape := ⟨2, ![262144, 64]⟩
abbrev S1x64 : Shape := ⟨2, ![1, 64]⟩
abbrev S262144x168 : Shape := ⟨2, ![262144, 168]⟩
abbrev S1x168 : Shape := ⟨2, ![1, 168]⟩
abbrev S262144x8x21 : Shape := ⟨3, ![262144, 8, 21]⟩
abbrev S262144x8x10 : Shape := ⟨3, ![262144, 8, 10]⟩
abbrev S262144x8x1 : Shape := ⟨3, ![262144, 8, 1]⟩

class Facts : Prop where
  slices_S262144x16_S262144x8_0_0 : S262144x16.Slices ![0, 0] S262144x8
  bcast_S_S262144x8 : S_.BroadcastsInDim S262144x8 (![] : Fin 0 → Fin S262144x8.rank)
  concatenates_S262144x8_S262144x8_S262144x8_S262144x8_S262144x8_S262144x8_S262144x8_S262144x56_d1 : Shape.Concatenates [S262144x8, S262144x8, S262144x8, S262144x8, S262144x8, S262144x8, S262144x8] S262144x56 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S168_S1x168_1 : S168.BroadcastsInDim S1x168 (![1] : Fin 1 → Fin S1x168.rank)
  bcast_S1x168_S262144x168_0_1 : S1x168.BroadcastsInDim S262144x168 (![0, 1] : Fin 2 → Fin S262144x168.rank)
  shapeCasts_S262144x168_S262144x8x21 : S262144x168.ShapeCasts S262144x8x21
  slices_S262144x8x21_S262144x8x10_0_0_11 : S262144x8x21.Slices ![0, 0, 11] S262144x8x10
  bcast_S_S262144x8x10 : S_.BroadcastsInDim S262144x8x10 (![] : Fin 0 → Fin S262144x8x10.rank)
  slices_S262144x8x10_S262144x8x1_0_0_0 : S262144x8x10.Slices ![0, 0, 0] S262144x8x1
  shapeCasts_S262144x8x1_S262144x8 : S262144x8x1.ShapeCasts S262144x8
  reducesTo_S262144x8x10_S262144x8_d2 : S262144x8x10.ReducesTo [2] S262144x8
  h_S_ : 0 < S_.numel
  reducesTo_S262144x8_S_d0_1 : S262144x8.ReducesTo [0, 1] S_
  dot_S262144x56_S56x64_S262144x64_1_0_0_1_n_n_wf : DotDims.WF S262144x56 S56x64 S262144x64 [1] [0] [0] [1] [] []
  dot_S262144x64_S64x64_S262144x64_1_0_0_1_n_n_wf : DotDims.WF S262144x64 S64x64 S262144x64 [1] [0] [0] [1] [] []
  dot_S262144x64_S64x168_S262144x168_1_0_0_1_n_n_wf : DotDims.WF S262144x64 S64x168 S262144x168 [1] [0] [0] [1] [] []

variable [Facts]

def dot_S262144x56_S56x64_S262144x64_1_0_0_1_n_n : DotDims S262144x56 S56x64 S262144x64 where
  lhsContracting := [1]
  rhsContracting := [0]
  lhsNonContracting := [0]
  rhsNonContracting := [1]
  lhsBatch := []
  rhsBatch := []
  wf := dot_S262144x56_S56x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x168_S262144x168_1_0_0_1_n_n : DotDims S262144x64 S64x168 S262144x168 where
  lhsContracting := [1]
  rhsContracting := [0]
  lhsNonContracting := [0]
  rhsNonContracting := [1]
  lhsBatch := []
  rhsBatch := []
  wf := dot_S262144x64_S64x168_S262144x168_1_0_0_1_n_n_wf
def fn_where {F : FTy → Type} [FloatOps F] (arg0 : IVec S262144x64 1) (arg1 : FVec F S262144x64 .f32) (arg2 : FVec F S262144x64 .f32) : FVec F S262144x64 .f32 :=
  let v0 : FVec F S262144x64 .f32 := select arg0 arg1 arg2
  v0

def fn_part3 {F : FTy → Type} [FloatOps F] (main_v57 : FVec F S262144x8x10 .f32) : IVec S_ 1 :=
  let main_cst_13 : FVec F S_ .f32 := constant S_ .f32 0x358637BD#32
  let main_v58 : FVec F S262144x8x10 .f32 := broadcastInDim S262144x8x10 ![] bcast_S_S262144x8x10 main_cst_13
  let main_v59 : FVec F S262144x8x10 .f32 := maximumf main_v57 main_v58
  let main_v60 : FVec F S262144x8x1 .f32 := (extractStridedSlice S262144x8x1 ![0, 0, 0] · slices_S262144x8x10_S262144x8x1_0_0_0) main_v59
  let main_v61 : FVec F S262144x8 .f32 := shapeCast S262144x8 main_v60 shapeCasts_S262144x8x1_S262144x8
  let main_cst_14 : FVec F S_ .f32 := constant S_ .f32 0x00000000#32
  let main_v62 : FVec F S262144x8 .f32 := (fun x v => Host.reduceAdd x v reducesTo_S262144x8x10_S262144x8_d2 h_S_) main_v59 main_cst_14
  let main_v63 : FVec F S262144x8 .f32 := Host.divf main_v61 main_v62
  let main_cst_15 : FVec F S_ .f32 := constant S_ .f32 0x34000000#32
  let main_v64 : FVec F S262144x8 .f32 := broadcastInDim S262144x8 ![] bcast_S_S262144x8 main_cst_15
  let main_v65 : IVec S262144x8 1 := cmpf .ogt main_v63 main_v64
  let main_c : IVec S_ 1 := constantI S_ 1 1#1
  let main_v66 : IVec S_ 1 := (fun x v => Host.reduce IntOp.andi x v reducesTo_S262144x8_S_d0_1 h_S_) main_v65 main_c
  main_v66

def fn_part2 {F : FTy → Type} [FloatOps F] (main_arg5 : FVec F S64x64 .f32) (main_arg6 : FVec F S64 .f32) (main_arg7 : FVec F S64x168 .f32) (main_arg8 : FVec F S168 .f32) (main_v36 : FVec F S262144x64 .f32) (main_cst_9 : FVec F S_ .f32) : IVec S_ 1 :=
  let main_v37 : FVec F S262144x64 .f32 := broadcastInDim S262144x64 ![] bcast_S_S262144x64 main_cst_9
  let main_v38 : IVec S262144x64 1 := cmpf .oge main_v36 main_v37
  let main_cst_10 : FVec F S_ .f32 := constant S_ .f32 0x3C23D70A#32
  let main_v39 : FVec F S262144x64 .f32 := broadcastInDim S262144x64 ![] bcast_S_S262144x64 main_cst_10
  let main_v40 : FVec F S262144x64 .f32 := mulf main_v39 main_v36
  let main_v41 : FVec F S262144x64 .f32 := fn_where (F := F) main_v38 main_v36 main_v40
  let main_v42 : FVec F S262144x64 .f32 := (fun l r => Host.dotGeneral dot_S262144x64_S64x64_S262144x64_1_0_0_1_n_n none l r) main_v41 main_arg5
  let main_v43 : FVec F S1x64 .f32 := broadcastInDim S1x64 ![1] bcast_S64_S1x64_1 main_arg6
  let main_v44 : FVec F S262144x64 .f32 := broadcastInDim S262144x64 ![0, 1] bcast_S1x64_S262144x64_0_1 main_v43
  let main_v45 : FVec F S262144x64 .f32 := addf main_v42 main_v44
  let main_cst_11 : FVec F S_ .f32 := constant S_ .f32 0x00000000#32
  let main_v46 : FVec F S262144x64 .f32 := broadcastInDim S262144x64 ![] bcast_S_S262144x64 main_cst_11
  let main_v47 : IVec S262144x64 1 := cmpf .oge main_v45 main_v46
  let main_cst_12 : FVec F S_ .f32 := constant S_ .f32 0x3C23D70A#32
  let main_v48 : FVec F S262144x64 .f32 := broadcastInDim S262144x64 ![] bcast_S_S262144x64 main_cst_12
  let main_v49 : FVec F S262144x64 .f32 := mulf main_v48 main_v45
  let main_v50 : FVec F S262144x64 .f32 := fn_where (F := F) main_v47 main_v45 main_v49
  let main_v51 : FVec F S262144x168 .f32 := (fun l r => Host.dotGeneral dot_S262144x64_S64x168_S262144x168_1_0_0_1_n_n none l r) main_v50 main_arg7
  let main_v52 : FVec F S1x168 .f32 := broadcastInDim S1x168 ![1] bcast_S168_S1x168_1 main_arg8
  let main_v53 : FVec F S262144x168 .f32 := broadcastInDim S262144x168 ![0, 1] bcast_S1x168_S262144x168_0_1 main_v52
  let main_v54 : FVec F S262144x168 .f32 := addf main_v51 main_v53
  let main_v55 : FVec F S262144x8x21 .f32 := shapeCast S262144x8x21 main_v54 shapeCasts_S262144x168_S262144x8x21
  let main_v56 : FVec F S262144x8x10 .f32 := (extractStridedSlice S262144x8x10 ![0, 0, 11] · slices_S262144x8x21_S262144x8x10_0_0_11) main_v55
  let main_v57 : FVec F S262144x8x10 .f32 := Host.exp main_v56
  fn_part3 (F := F) main_v57

def fn_part1 {F : FTy → Type} [FloatOps F] (main_arg1 : FVec F S56x64 .f32) (main_arg2 : FVec F S64 .f32) (main_arg3 : FVec F S64x64 .f32) (main_arg4 : FVec F S64 .f32) (main_arg5 : FVec F S64x64 .f32) (main_arg6 : FVec F S64 .f32) (main_arg7 : FVec F S64x168 .f32) (main_arg8 : FVec F S168 .f32) (main_v4 : FVec F S262144x8 .f32) (main_v7 : FVec F S262144x8 .f32) (main_v10 : FVec F S262144x8 .f32) (main_v13 : FVec F S262144x8 .f32) (main_v16 : FVec F S262144x8 .f32) (main_cst_5 : FVec F S_ .f32) : IVec S_ 1 :=
  let main_v17 : FVec F S262144x8 .f32 := broadcastInDim S262144x8 ![] bcast_S_S262144x8 main_cst_5
  let main_v18 : FVec F S262144x8 .f32 := mulf main_v4 main_v17
  let main_v19 : FVec F S262144x8 .f32 := Host.sin main_v18
  let main_cst_6 : FVec F S_ .f32 := constant S_ .f32 0x40800000#32
  let main_v20 : FVec F S262144x8 .f32 := broadcastInDim S262144x8 ![] bcast_S_S262144x8 main_cst_6
  let main_v21 : FVec F S262144x8 .f32 := mulf main_v4 main_v20
  let main_v22 : FVec F S262144x8 .f32 := Host.cos main_v21
  let main_v23 : FVec F S262144x56 .f32 := concatenate S262144x56 1 [⟨S262144x8, main_v4⟩, ⟨S262144x8, main_v7⟩, ⟨S262144x8, main_v10⟩, ⟨S262144x8, main_v13⟩, ⟨S262144x8, main_v16⟩, ⟨S262144x8, main_v19⟩, ⟨S262144x8, main_v22⟩] concatenates_S262144x8_S262144x8_S262144x8_S262144x8_S262144x8_S262144x8_S262144x8_S262144x56_d1
  let main_v24 : FVec F S262144x64 .f32 := (fun l r => Host.dotGeneral dot_S262144x56_S56x64_S262144x64_1_0_0_1_n_n none l r) main_v23 main_arg1
  let main_v25 : FVec F S1x64 .f32 := broadcastInDim S1x64 ![1] bcast_S64_S1x64_1 main_arg2
  let main_v26 : FVec F S262144x64 .f32 := broadcastInDim S262144x64 ![0, 1] bcast_S1x64_S262144x64_0_1 main_v25
  let main_v27 : FVec F S262144x64 .f32 := addf main_v24 main_v26
  let main_cst_7 : FVec F S_ .f32 := constant S_ .f32 0x00000000#32
  let main_v28 : FVec F S262144x64 .f32 := broadcastInDim S262144x64 ![] bcast_S_S262144x64 main_cst_7
  let main_v29 : IVec S262144x64 1 := cmpf .oge main_v27 main_v28
  let main_cst_8 : FVec F S_ .f32 := constant S_ .f32 0x3C23D70A#32
  let main_v30 : FVec F S262144x64 .f32 := broadcastInDim S262144x64 ![] bcast_S_S262144x64 main_cst_8
  let main_v31 : FVec F S262144x64 .f32 := mulf main_v30 main_v27
  let main_v32 : FVec F S262144x64 .f32 := fn_where (F := F) main_v29 main_v27 main_v31
  let main_v33 : FVec F S262144x64 .f32 := (fun l r => Host.dotGeneral dot_S262144x64_S64x64_S262144x64_1_0_0_1_n_n none l r) main_v32 main_arg3
  let main_v34 : FVec F S1x64 .f32 := broadcastInDim S1x64 ![1] bcast_S64_S1x64_1 main_arg4
  let main_v35 : FVec F S262144x64 .f32 := broadcastInDim S262144x64 ![0, 1] bcast_S1x64_S262144x64_0_1 main_v34
  let main_v36 : FVec F S262144x64 .f32 := addf main_v33 main_v35
  let main_cst_9 : FVec F S_ .f32 := constant S_ .f32 0x00000000#32
  fn_part2 (F := F) main_arg5 main_arg6 main_arg7 main_arg8 main_v36 main_cst_9

def fn {F : FTy → Type} [FloatOps F] (main_arg0 : FVec F S262144x16 .f32) (main_arg1 : FVec F S56x64 .f32) (main_arg2 : FVec F S64 .f32) (main_arg3 : FVec F S64x64 .f32) (main_arg4 : FVec F S64 .f32) (main_arg5 : FVec F S64x64 .f32) (main_arg6 : FVec F S64 .f32) (main_arg7 : FVec F S64x168 .f32) (main_arg8 : FVec F S168 .f32) : IVec S_ 1 :=
  let main_v0 : FVec F S262144x8 .f32 := (extractStridedSlice S262144x8 ![0, 0] · slices_S262144x16_S262144x8_0_0) main_arg0
  let main_cst : FVec F S_ .f32 := constant S_ .f32 0x40000000#32
  let main_v1 : FVec F S262144x8 .f32 := broadcastInDim S262144x8 ![] bcast_S_S262144x8 main_cst
  let main_v2 : FVec F S262144x8 .f32 := mulf main_v0 main_v1
  let main_cst_0 : FVec F S_ .f32 := constant S_ .f32 0x3F800000#32
  let main_v3 : FVec F S262144x8 .f32 := broadcastInDim S262144x8 ![] bcast_S_S262144x8 main_cst_0
  let main_v4 : FVec F S262144x8 .f32 := subf main_v2 main_v3
  let main_cst_1 : FVec F S_ .f32 := constant S_ .f32 0x3F800000#32
  let main_v5 : FVec F S262144x8 .f32 := broadcastInDim S262144x8 ![] bcast_S_S262144x8 main_cst_1
  let main_v6 : FVec F S262144x8 .f32 := mulf main_v4 main_v5
  let main_v7 : FVec F S262144x8 .f32 := Host.sin main_v6
  let main_cst_2 : FVec F S_ .f32 := constant S_ .f32 0x3F800000#32
  let main_v8 : FVec F S262144x8 .f32 := broadcastInDim S262144x8 ![] bcast_S_S262144x8 main_cst_2
  let main_v9 : FVec F S262144x8 .f32 := mulf main_v4 main_v8
  let main_v10 : FVec F S262144x8 .f32 := Host.cos main_v9
  let main_cst_3 : FVec F S_ .f32 := constant S_ .f32 0x40000000#32
  let main_v11 : FVec F S262144x8 .f32 := broadcastInDim S262144x8 ![] bcast_S_S262144x8 main_cst_3
  let main_v12 : FVec F S262144x8 .f32 := mulf main_v4 main_v11
  let main_v13 : FVec F S262144x8 .f32 := Host.sin main_v12
  let main_cst_4 : FVec F S_ .f32 := constant S_ .f32 0x40000000#32
  let main_v14 : FVec F S262144x8 .f32 := broadcastInDim S262144x8 ![] bcast_S_S262144x8 main_cst_4
  let main_v15 : FVec F S262144x8 .f32 := mulf main_v4 main_v14
  let main_v16 : FVec F S262144x8 .f32 := Host.cos main_v15
  let main_cst_5 : FVec F S_ .f32 := constant S_ .f32 0x40800000#32
  fn_part1 (F := F) main_arg1 main_arg2 main_arg3 main_arg4 main_arg5 main_arg6 main_arg7 main_arg8 main_v4 main_v7 main_v10 main_v13 main_v16 main_cst_5
-- ==== Kernel.lean ====
abbrev S262144x16 : Shape := ⟨2, ![262144, 16]⟩
abbrev S56x64 : Shape := ⟨2, ![56, 64]⟩
abbrev S64 : Shape := ⟨1, ![64]⟩
abbrev S64x64 : Shape := ⟨2, ![64, 64]⟩
abbrev S64x168 : Shape := ⟨2, ![64, 168]⟩
abbrev S168 : Shape := ⟨1, ![168]⟩
abbrev S64x56 : Shape := ⟨2, ![64, 56]⟩
abbrev S64x8x21 : Shape := ⟨3, ![64, 8, 21]⟩
abbrev S21x8x64 : Shape := ⟨3, ![21, 8, 64]⟩
abbrev S168x64 : Shape := ⟨2, ![168, 64]⟩
abbrev S64x1 : Shape := ⟨2, ![64, 1]⟩
abbrev S8x21 : Shape := ⟨2, ![8, 21]⟩
abbrev S21x8 : Shape := ⟨2, ![21, 8]⟩
abbrev S168x1 : Shape := ⟨2, ![168, 1]⟩
abbrev S1x262144 : Shape := ⟨2, ![1, 262144]⟩
abbrev S2048x16 : Shape := ⟨2, ![2048, 16]⟩
abbrev S1x2048 : Shape := ⟨2, ![1, 2048]⟩
abbrev S16x2048 : Shape := ⟨2, ![16, 2048]⟩
abbrev S8x2048 : Shape := ⟨2, ![8, 2048]⟩
abbrev S56x2048 : Shape := ⟨2, ![56, 2048]⟩
abbrev S64x2048 : Shape := ⟨2, ![64, 2048]⟩
abbrev S168x2048 : Shape := ⟨2, ![168, 2048]⟩
abbrev S2048 : Shape := ⟨1, ![2048]⟩

abbrev nBuf : Space → Nat
  | .hbm => 24
  | .vmem => 14
  | .smem => 0
  | _ => 0

abbrev bufTy : (tb : Table) → Fin (tcTables nBuf tb) → BufTy
  | .hbm, ⟨0, _⟩ => ⟨S262144x16, .f32⟩
  | .hbm, ⟨1, _⟩ => ⟨S56x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x168, .f32⟩
  | .hbm, ⟨8, _⟩ => ⟨S168, .f32⟩
  | .hbm, ⟨9, _⟩ => ⟨S64x56, .f32⟩
  | .hbm, ⟨10, _⟩ => ⟨S64x64, .f32⟩
  | .hbm, ⟨11, _⟩ => ⟨S64x64, .f32⟩
  | .hbm, ⟨12, _⟩ => ⟨S64x8x21, .f32⟩
  | .hbm, ⟨13, _⟩ => ⟨S21x8x64, .f32⟩
  | .hbm, ⟨14, _⟩ => ⟨S168x64, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S8x21, .f32⟩
  | .hbm, ⟨19, _⟩ => ⟨S21x8, .f32⟩
  | .hbm, ⟨20, _⟩ => ⟨S168, .f32⟩
  | .hbm, ⟨21, _⟩ => ⟨S168x1, .f32⟩
  | .hbm, ⟨22, _⟩ => ⟨S262144x16, .f32⟩
  | .hbm, ⟨23, _⟩ => ⟨S1x262144, .f32⟩
  | .local _ .vmem, ⟨0, _⟩ => ⟨S2048x16, .f32⟩
  | .local _ .vmem, ⟨1, _⟩ => ⟨S2048x16, .f32⟩
  | .local _ .vmem, ⟨2, _⟩ => ⟨S64x56, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S168x64, .f32⟩
  | .local _ .vmem, ⟨9, _⟩ => ⟨S168x1, .f32⟩
  | .local _ .vmem, ⟨10, _⟩ => ⟨S2048x16, .f32⟩
  | .local _ .vmem, ⟨11, _⟩ => ⟨S2048x16, .f32⟩
  | .local _ .vmem, ⟨12, _⟩ => ⟨S1x2048, .f32⟩
  | .local _ .vmem, ⟨13, _⟩ => ⟨S1x2048, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S168x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S168x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S262144x16 : Shape := ⟨2, ![262144, 16]⟩
abbrev S56x64 : Shape := ⟨2, ![56, 64]⟩
abbrev S64 : Shape := ⟨1, ![64]⟩
abbrev S64x64 : Shape := ⟨2, ![64, 64]⟩
abbrev S64x168 : Shape := ⟨2, ![64, 168]⟩
abbrev S168 : Shape := ⟨1, ![168]⟩
abbrev S262144x8 : Shape := ⟨2, ![262144, 8]⟩
abbrev S_ : Shape := ⟨0, ![]⟩
abbrev S262144x56 : Shape := ⟨2, ![262144, 56]⟩
abbrev S262144x64 : Shape := ⟨2, ![262144, 64]⟩
abbrev S1x64 : Shape := ⟨2, ![1, 64]⟩
abbrev S262144x168 : Shape := ⟨2, ![262144, 168]⟩
abbrev S1x168 : Shape := ⟨2, ![1, 168]⟩
abbrev S262144x8x21 : Shape := ⟨3, ![262144, 8, 21]⟩
abbrev S262144x8x11 : Shape := ⟨3, ![262144, 8, 11]⟩
abbrev S262144x8x10 : Shape := ⟨3, ![262144, 8, 10]⟩
abbrev S262144x8x1 : Shape := ⟨3, ![262144, 8, 1]⟩
abbrev S262144x8x1x1 : Shape := ⟨4, ![262144, 8, 1, 1]⟩
abbrev S262144 : Shape := ⟨1, ![262144]⟩
abbrev S262144x1 : Shape := ⟨2, ![262144, 1]⟩
abbrev S1x262144 : Shape := ⟨2, ![1, 262144]⟩

abbrev nBuf : Space → Nat
  | .hbm => 260
  | .vmem => 0
  | .smem => 0
  | _ => 0

abbrev hbmTy0_0 (i : Nat) : BufTy := match i % 128 with
  | 0 => ⟨S262144x16, .f32⟩
  | 1 => ⟨S56x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x168, .f32⟩
  | 8 => ⟨S168, .f32⟩
  | 9 => ⟨S262144x8, .f32⟩
  | 10 => ⟨S262144x8, .f32⟩
  | 11 => ⟨S_, .f32⟩
  | 12 => ⟨S262144x8, .f32⟩
  | 13 => ⟨S262144x8, .f32⟩
  | 14 => ⟨S_, .f32⟩
  | 15 => ⟨S262144x8, .f32⟩
  | 16 => ⟨S262144x8, .f32⟩
  | 17 => ⟨S_, .f32⟩
  | 18 => ⟨S262144x8, .f32⟩
  | 19 => ⟨S262144x8, .f32⟩
  | 20 => ⟨S262144x8, .f32⟩
  | 21 => ⟨S_, .f32⟩
  | 22 => ⟨S262144x8, .f32⟩
  | 23 => ⟨S262144x8, .f32⟩
  | 24 => ⟨S262144x8, .f32⟩
  | 25 => ⟨S_, .f32⟩
  | 26 => ⟨S262144x8, .f32⟩
  | 27 => ⟨S262144x8, .f32⟩
  | 28 => ⟨S262144x8, .f32⟩
  | 29 => ⟨S_, .f32⟩
  | 30 => ⟨S262144x8, .f32⟩
  | 31 => ⟨S262144x8, .f32⟩
  | 32 => ⟨S262144x8, .f32⟩
  | 33 => ⟨S_, .f32⟩
  | 34 => ⟨S262144x8, .f32⟩
  | 35 => ⟨S262144x8, .f32⟩
  | 36 => ⟨S262144x8, .f32⟩
  | 37 => ⟨S_, .f32⟩
  | 38 => ⟨S262144x8, .f32⟩
  | 39 => ⟨S262144x8, .f32⟩
  | 40 => ⟨S262144x8, .f32⟩
  | 41 => ⟨S262144x56, .f32⟩
  | 42 => ⟨S262144x64, .f32⟩
  | 43 => ⟨S1x64, .f32⟩
  | 44 => ⟨S262144x64, .f32⟩
  | 45 => ⟨S262144x64, .f32⟩
  | 46 => ⟨S_, .f32⟩
  | 47 => ⟨S262144x64, .f32⟩
  | 48 => ⟨S262144x64, .i1⟩
  | 49 => ⟨S_, .f32⟩
  | 50 => ⟨S262144x64, .f32⟩
  | 51 => ⟨S262144x64, .f32⟩
  | 52 => ⟨S262144x64, .f32⟩
  | 53 => ⟨S262144x64, .f32⟩
  | 54 => ⟨S1x64, .f32⟩
  | 55 => ⟨S262144x64, .f32⟩
  | 56 => ⟨S262144x64, .f32⟩
  | 57 => ⟨S_, .f32⟩
  | 58 => ⟨S262144x64, .f32⟩
  | 59 => ⟨S262144x64, .i1⟩
  | 60 => ⟨S_, .f32⟩
  | 61 => ⟨S262144x64, .f32⟩
  | 62 => ⟨S262144x64, .f32⟩
  | 63 => ⟨S262144x64, .f32⟩
  | 64 => ⟨S262144x64, .f32⟩
  | 65 => ⟨S1x64, .f32⟩
  | 66 => ⟨S262144x64, .f32⟩
  | 67 => ⟨S262144x64, .f32⟩
  | 68 => ⟨S_, .f32⟩
  | 69 => ⟨S262144x64, .f32⟩
  | 70 => ⟨S262144x64, .i1⟩
  | 71 => ⟨S_, .f32⟩
  | 72 => ⟨S262144x64, .f32⟩
  | 73 => ⟨S262144x64, .f32⟩
  | 74 => ⟨S262144x64, .f32⟩
  | 75 => ⟨S262144x168, .f32⟩
  | 76 => ⟨S1x168, .f32⟩
  | 77 => ⟨S262144x168, .f32⟩
  | 78 => ⟨S262144x168, .f32⟩
  | 79 => ⟨S262144x8x21, .f32⟩
  | 80 => ⟨S262144x8x11, .f32⟩
  | 81 => ⟨S262144x8x10, .f32⟩
  | 82 => ⟨S262144x8x10, .f32⟩
  | 83 => ⟨S_, .f32⟩
  | 84 => ⟨S262144x8x10, .f32⟩
  | 85 => ⟨S262144x8x10, .f32⟩
  | 86 => ⟨S_, .f32⟩
  | 87 => ⟨S_, .f32⟩
  | 88 => ⟨S262144x8x10, .f32⟩
  | 89 => ⟨S262144x8x1, .f32⟩
  | 90 => ⟨S262144x8x10, .f32⟩
  | 91 => ⟨S262144x8x10, .f32⟩
  | 92 => ⟨S_, .f32⟩
  | 93 => ⟨S262144x8x10, .f32⟩
  | 94 => ⟨S262144x8x10, .f32⟩
  | 95 => ⟨S262144x8x10, .f32⟩
  | 96 => ⟨S262144x8x10, .f32⟩
  | 97 => ⟨S_, .f32⟩
  | 98 => ⟨S262144x8x1, .f32⟩
  | 99 => ⟨S262144x8x11, .f32⟩
  | 100 => ⟨S262144x8x11, .f32⟩
  | 101 => ⟨S262144x8x10, .f32⟩
  | 102 => ⟨S262144x8x10, .f32⟩
  | 103 => ⟨S262144x8x10, .f32⟩
  | 104 => ⟨S_, .f32⟩
  | 105 => ⟨S262144x8x10, .f32⟩
  | 106 => ⟨S262144x8x10, .f32⟩
  | 107 => ⟨S262144x8x10, .f32⟩
  | 108 => ⟨S_, .f32⟩
  | 109 => ⟨S262144x8, .f32⟩
  | 110 => ⟨S262144x8x1, .f32⟩
  | 111 => ⟨S262144x8x11, .f32⟩
  | 112 => ⟨S262144x8x11, .f32⟩
  | 113 => ⟨S_, .f32⟩
  | 114 => ⟨S262144x8x11, .f32⟩
  | 115 => ⟨S262144x8x11, .f32⟩
  | 116 => ⟨S262144x8x1, .f32⟩
  | 117 => ⟨S262144x8x10, .f32⟩
  | 118 => ⟨S262144x8x10, .i1⟩
  | 119 => ⟨S_, .f32⟩
  | 120 => ⟨S_, .f32⟩
  | 121 => ⟨S262144x8x10, .f32⟩
  | 122 => ⟨S262144x8x10, .f32⟩
  | 123 => ⟨S262144x8x10, .f32⟩
  | 124 => ⟨S_, .f32⟩
  | 125 => ⟨S262144x8x1, .f32⟩
  | 126 => ⟨S262144x8x10, .f32⟩
  | 127 => ⟨S262144x8x10, .f32⟩
  | _ => ⟨S262144x16, .f32⟩

abbrev hbmTy0_1 (i : Nat) : BufTy := match i % 128 with
  | 0 => ⟨S262144x8x11, .f32⟩
  | 1 => ⟨S_, .f32⟩
  | 2 => ⟨S262144x8, .f32⟩
  | 3 => ⟨S262144x8x1, .f32⟩
  | 4 => ⟨S262144x8x11, .f32⟩
  | 5 => ⟨S262144x8x11, .i1⟩
  | 6 => ⟨S262144x8x11, .i32⟩
  | 7 => ⟨S_, .i32⟩
  | 8 => ⟨S_, .i32⟩
  | 9 => ⟨S262144x8x11, .i32⟩
  | 10 => ⟨S262144x8x11, .i32⟩
  | 11 => ⟨S_, .i32⟩
  | 12 => ⟨S262144x8, .i32⟩
  | 13 => ⟨S262144x8x1, .i32⟩
  | 14 => ⟨S_, .i32⟩
  | 15 => ⟨S_, .i32⟩
  | 16 => ⟨S_, .i32⟩
  | 17 => ⟨S262144x8x1, .i32⟩
  | 18 => ⟨S262144x8x1, .i32⟩
  | 19 => ⟨S_, .i32⟩
  | 20 => ⟨S262144x8x1, .i32⟩
  | 21 => ⟨S262144x8x1, .i32⟩
  | 22 => ⟨S_, .i32⟩
  | 23 => ⟨S262144x8x1, .i32⟩
  | 24 => ⟨S262144x8x1, .i1⟩
  | 25 => ⟨S_, .i32⟩
  | 26 => ⟨S262144x8x1, .i32⟩
  | 27 => ⟨S262144x8x1, .i32⟩
  | 28 => ⟨S262144x8x1, .i32⟩
  | 29 => ⟨S262144x8x1x1, .i32⟩
  | 30 => ⟨S262144x8x1, .f32⟩
  | 31 => ⟨S262144x8, .f32⟩
  | 32 => ⟨S262144x8, .f32⟩
  | 33 => ⟨S_, .i32⟩
  | 34 => ⟨S262144x8x1, .i32⟩
  | 35 => ⟨S262144x8x1, .i1⟩
  | 36 => ⟨S_, .i32⟩
  | 37 => ⟨S262144x8x1, .i32⟩
  | 38 => ⟨S262144x8x1, .i32⟩
  | 39 => ⟨S262144x8x1, .i32⟩
  | 40 => ⟨S262144x8x1x1, .i32⟩
  | 41 => ⟨S262144x8x1, .f32⟩
  | 42 => ⟨S262144x8, .f32⟩
  | 43 => ⟨S262144x8, .f32⟩
  | 44 => ⟨S_, .f32⟩
  | 45 => ⟨S_, .f32⟩
  | 46 => ⟨S_, .f32⟩
  | 47 => ⟨S262144x8, .f32⟩
  | 48 => ⟨S262144x8, .f32⟩
  | 49 => ⟨S_, .f32⟩
  | 50 => ⟨S262144x8, .f32⟩
  | 51 => ⟨S262144x8, .f32⟩
  | 52 => ⟨S262144x8x10, .f32⟩
  | 53 => ⟨S262144x8x10, .f32⟩
  | 54 => ⟨S262144x8x10, .f32⟩
  | 55 => ⟨S_, .f32⟩
  | 56 => ⟨S262144x8x10, .f32⟩
  | 57 => ⟨S262144x8x10, .f32⟩
  | 58 => ⟨S262144x8x10, .f32⟩
  | 59 => ⟨S_, .f32⟩
  | 60 => ⟨S_, .f32⟩
  | 61 => ⟨S262144x8x10, .f32⟩
  | 62 => ⟨S262144x8x11, .f32⟩
  | 63 => ⟨S_, .i32⟩
  | 64 => ⟨S262144x8x1, .i32⟩
  | 65 => ⟨S262144x8x1, .i1⟩
  | 66 => ⟨S_, .i32⟩
  | 67 => ⟨S262144x8x1, .i32⟩
  | 68 => ⟨S262144x8x1, .i32⟩
  | 69 => ⟨S262144x8x1, .i32⟩
  | 70 => ⟨S262144x8x1x1, .i32⟩
  | 71 => ⟨S262144x8x1, .f32⟩
  | 72 => ⟨S262144x8, .f32⟩
  | 73 => ⟨S_, .i32⟩
  | 74 => ⟨S262144x8x1, .i32⟩
  | 75 => ⟨S262144x8x1, .i32⟩
  | 76 => ⟨S_, .i32⟩
  | 77 => ⟨S262144x8x1, .i32⟩
  | 78 => ⟨S262144x8x1, .i1⟩
  | 79 => ⟨S_, .i32⟩
  | 80 => ⟨S262144x8x1, .i32⟩
  | 81 => ⟨S262144x8x1, .i32⟩
  | 82 => ⟨S262144x8x1, .i32⟩
  | 83 => ⟨S262144x8x1x1, .i32⟩
  | 84 => ⟨S262144x8x1, .f32⟩
  | 85 => ⟨S262144x8, .f32⟩
  | 86 => ⟨S_, .i32⟩
  | 87 => ⟨S262144x8x1, .i32⟩
  | 88 => ⟨S262144x8x1, .i1⟩
  | 89 => ⟨S_, .i32⟩
  | 90 => ⟨S262144x8x1, .i32⟩
  | 91 => ⟨S262144x8x1, .i32⟩
  | 92 => ⟨S262144x8x1, .i32⟩
  | 93 => ⟨S262144x8x1x1, .i32⟩
  | 94 => ⟨S262144x8x1, .f32⟩
  | 95 => ⟨S262144x8, .f32⟩
  | 96 => ⟨S262144x8, .f32⟩
  | 97 => ⟨S_, .f32⟩
  | 98 => ⟨S262144x8, .f32⟩
  | 99 => ⟨S262144x8, .f32⟩
  | 100 => ⟨S262144x8, .f32⟩
  | 101 => ⟨S262144x8, .f32⟩
  | 102 => ⟨S262144x8, .f32⟩
  | 103 => ⟨S262144x8, .f32⟩
  | 104 => ⟨S262144x8, .f32⟩
  | 105 => ⟨S262144x8, .f32⟩
  | 106 => ⟨S_, .i32⟩
  | 107 => ⟨S262144x8x1, .i32⟩
  | 108 => ⟨S262144x8x1, .i1⟩
  | 109 => ⟨S_, .i32⟩
  | 110 => ⟨S262144x8x1, .i32⟩
  | 111 => ⟨S262144x8x1, .i32⟩
  | 112 => ⟨S262144x8x1, .i32⟩
  | 113 => ⟨S262144x8x1x1, .i32⟩
  | 114 => ⟨S262144x8x1, .f32⟩
  | 115 => ⟨S262144x8, .f32⟩
  | 116 => ⟨S262144x8, .f32⟩
  | 117 => ⟨S_, .f32⟩
  | 118 => ⟨S_, .f32⟩
  | 119 => ⟨S262144x8, .f32⟩
  | 120 => ⟨S262144x8, .f32⟩
  | 121 => ⟨S262144x8, .f32⟩
  | 122 => ⟨S262144x8, .f32⟩
  | 123 => ⟨S262144x8, .f32⟩
  | 124 => ⟨S262144x8, .f32⟩
  | 125 => ⟨S262144x8, .f32⟩
  | 126 => ⟨S262144x8, .f32⟩
  | 127 => ⟨S_, .f32⟩
  | _ => ⟨S262144x16, .f32⟩

abbrev hbmTy0_2 (i : Nat) : BufTy := match i % 128 with
  | 0 => ⟨S262144, .f32⟩
  | 1 => ⟨S262144x1, .f32⟩
  | 2 => ⟨S262144x16, .f32⟩
  | 3 => ⟨S1x262144, .f32⟩
  | _ => ⟨S262144x16, .f32⟩

abbrev hbmTy (i : Nat) : BufTy := match i / 128 with
  | 0 => hbmTy0_0 i
  | 1 => hbmTy0_1 i
  | 2 => hbmTy0_2 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_call3_call0_cst : Ref sig .tc := ⟨.hbm, 86, rfl⟩
abbrev main_call3_call0_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_cst_20 : Ref sig .tc := ⟨.hbm, 120, rfl⟩
abbrev main_call4_v0 : Ref sig .tc := ⟨.hbm, 121, rfl⟩
abbrev main_call4_v1 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c : Ref sig .tc := ⟨.hbm, 135, rfl⟩
abbrev main_call5_v0 : Ref sig .tc := ⟨.hbm, 136, rfl⟩
abbrev main_call5_v1 : Ref sig .tc := ⟨.hbm, 137, rfl⟩
abbrev main_v98 : Ref sig .tc := ⟨.hbm, 138, rfl⟩
abbrev main_c_23 : Ref sig .tc := ⟨.hbm, 139, rfl⟩
abbrev main_v99 : Ref sig .tc := ⟨.hbm, 140, rfl⟩
abbrev main_v100 : Ref sig .tc := ⟨.hbm, 141, rfl⟩
abbrev main_c_24 : Ref sig .tc := ⟨.hbm, 142, rfl⟩
abbrev main_c_25 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_v101 : Ref sig .tc := ⟨.hbm, 149, rfl⟩
abbrev main_call7_c : Ref sig .tc := ⟨.hbm, 150, rfl⟩
abbrev main_call7_v0 : Ref sig .tc := ⟨.hbm, 151, rfl⟩
abbrev main_call7_v1 : Ref sig .tc := ⟨.hbm, 152, rfl⟩
abbrev main_call7_c_0 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_call7_v5 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_call8_c : Ref sig .tc := ⟨.hbm, 161, rfl⟩
abbrev main_call8_v0 : Ref sig .tc := ⟨.hbm, 162, rfl⟩
abbrev main_call8_v1 : Ref sig .tc := ⟨.hbm, 163, rfl⟩
abbrev main_call8_c_0 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_call8_v5 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_26 : Ref sig .tc := ⟨.hbm, 172, rfl⟩
abbrev main_cst_27 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_28 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call10_call0_cst : Ref sig .tc := ⟨.hbm, 187, rfl⟩
abbrev main_call10_call0_v0 : Ref sig .tc := ⟨.hbm, 188, rfl⟩
abbrev main_v115 : Ref sig .tc := ⟨.hbm, 189, rfl⟩
abbrev main_v116 : Ref sig .tc := ⟨.hbm, 190, rfl⟩
abbrev main_call11_c : Ref sig .tc := ⟨.hbm, 191, rfl⟩
abbrev main_call11_v0 : Ref sig .tc := ⟨.hbm, 192, rfl⟩
abbrev main_call11_v1 : Ref sig .tc := ⟨.hbm, 193, rfl⟩
abbrev main_call11_c_0 : Ref sig .tc := ⟨.hbm, 194, rfl⟩
abbrev main_call11_v2 : Ref sig .tc := ⟨.hbm, 195, rfl⟩
abbrev main_call11_v3 : Ref sig .tc := ⟨.hbm, 196, rfl⟩
abbrev main_call11_v4 : Ref sig .tc := ⟨.hbm, 197, rfl⟩
abbrev main_call11_v5 : Ref sig .tc := ⟨.hbm, 198, rfl⟩
abbrev main_v117 : Ref sig .tc := ⟨.hbm, 199, rfl⟩
abbrev main_v118 : Ref sig .tc := ⟨.hbm, 200, rfl⟩
abbrev main_c_29 : Ref sig .tc := ⟨.hbm, 201, rfl⟩
abbrev main_v119 : Ref sig .tc := ⟨.hbm, 202, rfl⟩
abbrev main_v120 : Ref sig .tc := ⟨.hbm, 203, rfl⟩
abbrev main_call12_c : Ref sig .tc := ⟨.hbm, 204, rfl⟩
abbrev main_call12_v0 : Ref sig .tc := ⟨.hbm, 205, rfl⟩
abbrev main_call12_v1 : Ref sig .tc := ⟨.hbm, 206, rfl⟩
abbrev main_call12_c_0 : Ref sig .tc := ⟨.hbm, 207, rfl⟩
abbrev main_call12_v2 : Ref sig .tc := ⟨.hbm, 208, rfl⟩
abbrev main_call12_v3 : Ref sig .tc := ⟨.hbm, 209, rfl⟩
abbrev main_call12_v4 : Ref sig .tc := ⟨.hbm, 210, rfl⟩
abbrev main_call12_v5 : Ref sig .tc := ⟨.hbm, 211, rfl⟩
abbrev main_v121 : Ref sig .tc := ⟨.hbm, 212, rfl⟩
abbrev main_v122 : Ref sig .tc := ⟨.hbm, 213, rfl⟩
abbrev main_call13_c : Ref sig .tc := ⟨.hbm, 214, rfl⟩
abbrev main_call13_v0 : Ref sig .tc := ⟨.hbm, 215, rfl⟩
abbrev main_call13_v1 : Ref sig .tc := ⟨.hbm, 216, rfl⟩
abbrev main_call13_c_0 : Ref sig .tc := ⟨.hbm, 217, rfl⟩
abbrev main_call13_v2 : Ref sig .tc := ⟨.hbm, 218, rfl⟩
abbrev main_call13_v3 : Ref sig .tc := ⟨.hbm, 219, rfl⟩
abbrev main_call13_v4 : Ref sig .tc := ⟨.hbm, 220, rfl⟩
abbrev main_call13_v5 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_cst_30 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_call14_c : Ref sig .tc := ⟨.hbm, 234, rfl⟩
abbrev main_call14_v0 : Ref sig .tc := ⟨.hbm, 235, rfl⟩
abbrev main_call14_v1 : Ref sig .tc := ⟨.hbm, 236, rfl⟩
abbrev main_call14_c_0 : Ref sig .tc := ⟨.hbm, 237, rfl⟩
abbrev main_call14_v2 : Ref sig .tc := ⟨.hbm, 238, rfl⟩
abbrev main_call14_v3 : Ref sig .tc := ⟨.hbm, 239, rfl⟩
abbrev main_call14_v4 : Ref sig .tc := ⟨.hbm, 240, rfl⟩
abbrev main_call14_v5 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_cst_31 : Ref sig .tc := ⟨.hbm, 245, rfl⟩
abbrev main_cst_32 : Ref sig .tc := ⟨.hbm, 246, rfl⟩
abbrev main_call15_v0 : Ref sig .tc := ⟨.hbm, 247, rfl⟩
abbrev main_call15_v1 : Ref sig .tc := ⟨.hbm, 248, rfl⟩
abbrev main_call15_v2 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_33 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩

abbrev nD : Nat := 1
abbrev τ : Topo := Topo.v7x

variable {F : FTy → Type} [FloatOps F]
-- ==== Proof.Spline.lean ====
/- The spline of one lane, over the extended reals: the quantities both programs compute from the conditioner's
   row `u` (11 heights, then 10 widths) and the query `q`, and the facts about the selected bin. -/
module

public import Idealize.ShloMosaic.Lib.Pointwise

@[expose] public section

noncomputable section

namespace Cert.Spline

open Idealize.ShloMosaic

/-- The smallest width and height: the literal `1e-6`. -/
def floorC : EReal := Ideal.ofBits .f32 0x358637BD#32
/-- The literal `2`. -/
def two : EReal := Ideal.ofBits .f32 0x40000000#32
/-- The literal `0.5`. -/
def half : EReal := Ideal.ofBits .f32 0x3F000000#32
/-- The float epsilon. -/
def epsC : EReal := Ideal.ofBits .f32 0x34000000#32
/-- One minus twice the float's unit roundoff: the upper bound of the result. -/
def topC : EReal := Ideal.ofBits .f32 0x3F7FFFFE#32

/-- The literal two. -/
theorem two_eq : two = ((2 : ℝ) : EReal) := by
  rw [two]; simp [Ideal.ofBits, Ideal.ieee, -EReal.coe_mul]; norm_num

/-- The literal one half. -/
theorem half_eq : half = ((1 / 2 : ℝ) : EReal) := by
  rw [half]; simp [Ideal.ofBits, Ideal.ieee, -EReal.coe_mul]; norm_num

/-- The floor of widths and heights is a positive real. -/
theorem floorC_eq : ∃ r : ℝ, 0 < r ∧ floorC = (r : EReal) := by
  refine ⟨_, ?_, by rw [floorC]; simp [Ideal.ofBits, Ideal.ieee]; rfl⟩
  positivity

/-- The float epsilon is a positive real. -/
theorem epsC_eq : ∃ r : ℝ, 0 < r ∧ epsC = (r : EReal) := by
  refine ⟨_, ?_, by rw [epsC]; simp [Ideal.ofBits, Ideal.ieee]; rfl⟩
  positivity

/-! ## Division -/

/-- Halving by a product is halving by a quotient. -/
theorem mul_half (x : EReal) : x * half = Ideal.div x two := by
  have h2 : (((2 : ℝ) : ℝ) : EReal) ≠ 0 := by norm_num
  rw [Ideal.div, two_eq, if_neg h2, half_eq, one_div, EReal.coe_inv]

/-- Multiplying by a reciprocal divides, off zero. -/
theorem mul_recip (a : EReal) {d : EReal} (hd : d ≠ 0) : a * Ideal.div 1 d = Ideal.div a d := by
  rw [Ideal.div, Ideal.div, if_neg hd, if_neg hd, one_mul]

/-- Below a positive floor, multiplying by a reciprocal divides, zero divisor included. -/
theorem floor_recip {a d : EReal} (ha : 0 ≤ a) : max (a * Ideal.div 1 d) floorC = max (Ideal.div a d) floorC := by
  by_cases hd : d = 0
  · obtain ⟨r, hr, hc⟩ := floorC_eq
    rcases ha.eq_or_lt with rfl | h
    · have h0 : (0 : EReal) ≤ floorC := by rw [hc]; exact_mod_cast hr.le
      rw [zero_mul, max_eq_right h0, Ideal.div, if_pos hd, if_neg (lt_irrefl _), max_eq_right bot_le]
    · have h1 : (0 : EReal) < 1 := zero_lt_one
      rw [Ideal.div, Ideal.div, if_pos hd, if_pos hd, if_pos h, if_pos h1, EReal.mul_top_of_pos h]
  · rw [mul_recip a hd]

/-- An exponential is never negative. -/
theorem exp_nonneg (x : EReal) : 0 ≤ Ideal.exp x := by
  induction x with
  | bot => exact le_refl _
  | top => exact le_top
  | coe r => exact EReal.coe_nonneg.2 (Real.exp_pos r).le

/-! ## The quantities -/

variable (u : ℕ → EReal) (q : EReal)

/-- Unnormalised width `t`. -/
def wr (t : ℕ) : EReal := max (Ideal.exp (u (11 + t))) floorC
/-- Unnormalised right edge of bin `t`: the widths up to and including `t`. -/
def ws (t : ℕ) : EReal := ∑ i ∈ Finset.range (t + 1), wr u i
/-- The total width. -/
def total : EReal := ws u 9
/-- Right edge of bin `t`. -/
def edge (t : ℕ) : EReal := Ideal.div (ws u t) (total u)
/-- Width of bin `t`. -/
def wn (t : ℕ) : EReal := max (Ideal.div (wr u t) (total u)) floorC
/-- Unnormalised height `t`. -/
def vr (t : ℕ) : EReal := Ideal.exp (u t)
/-- The area under the unnormalised heights. -/
def area : EReal := ∑ t ∈ Finset.range 10, Ideal.div (vr u t + vr u (t + 1)) two * wn u t
/-- Height `t`. -/
def vn (t : ℕ) : EReal := max (Ideal.div (vr u t) (area u)) floorC
/-- The area of bin `t`. -/
def dv (t : ℕ) : EReal := Ideal.div (vn u t + vn u (t + 1)) two * wn u t
/-- The selected bin: the number of the first nine right edges that are at most the query. -/
def bin : ℕ := ((Finset.range 9).filter fun t => edge u t ≤ q).card
/-- The left edge of bin `k`. -/
def leftEdge (k : ℕ) : EReal := if k = 0 then 0 else edge u (k - 1)
/-- The query's place within bin `k`, between zero and one. -/
def alpha (k : ℕ) : EReal := min 1 (max 0 (Ideal.div (q - leftEdge u k) (wn u k)))
/-- The spline's value in bin `k`. -/
def value (k : ℕ) : EReal :=
  min topC (max epsC (Ideal.div (alpha u q k * alpha u q k) two * ((vn u (k + 1) - vn u k) * wn u k)
    + alpha u q k * vn u k * wn u k + ∑ t ∈ Finset.range k, dv u t))
/-- The logarithm of the spline's slope in bin `k`. -/
def logSlope (k : ℕ) : EReal := Ideal.log (vn u k + alpha u q k * (vn u (k + 1) - vn u k))

/-- An unnormalised width is positive. -/
theorem wr_pos (t : ℕ) : 0 < wr u t := by
  obtain ⟨r, hr, hc⟩ := floorC_eq
  exact lt_max_of_lt_right (by rw [hc]; exact_mod_cast hr)

/-- The total width is positive. -/
theorem total_pos : 0 < total u := by
  refine lt_of_lt_of_le (wr_pos u 0) ?_
  exact Finset.single_le_sum (f := wr u) (fun i _ => (wr_pos u i).le) (Finset.mem_range.2 (by norm_num))

/-- Multiplying by the total's reciprocal is dividing by the total: the right edges. -/
theorem edge_of_mul (t : ℕ) : ws u t * Ideal.div 1 (total u) = edge u t := mul_recip _ (total_pos u).ne'

/-- The same for the floored widths. -/
theorem wn_of_mul (t : ℕ) : max (wr u t * Ideal.div 1 (total u)) floorC = wn u t := floor_recip (wr_pos u t).le

/-- The same for the floored heights. -/
theorem vn_of_mul (t : ℕ) : max (vr u t * Ideal.div 1 (area u)) floorC = vn u t := floor_recip (exp_nonneg _)

/-! ## The selected bin, where the first bin is wider than the float epsilon -/

/-- Where the first edge exceeds the epsilon the widths are real numbers. -/
theorem total_ne_top (h : epsC < edge u 0) : total u ≠ ⊤ := by
  intro ht
  obtain ⟨r, hr, hc⟩ := epsC_eq
  rw [edge, ht, Ideal.div, if_neg EReal.top_ne_zero, EReal.inv_top, mul_zero, hc] at h
  exact absurd h (not_lt.2 (by exact_mod_cast hr.le))

/-- If the first edge is above the epsilon, the ten unnormalised widths are positive reals. -/
theorem wr_real (h : epsC < edge u 0) {t : ℕ} (ht : t < 10) : ∃ r : ℝ, 0 < r ∧ wr u t = (r : EReal) := by
  have h1 : wr u t ≤ total u :=
    Finset.single_le_sum (f := wr u) (fun i _ => (wr_pos u i).le) (Finset.mem_range.2 (by omega))
  have h2 : wr u t ≠ ⊤ := fun e => total_ne_top u h (top_le_iff.1 (e ▸ h1))
  have h3 : wr u t ≠ ⊥ := (lt_of_le_of_lt bot_le (wr_pos u t)).ne'
  refine ⟨(wr u t).toReal, ?_, (EReal.coe_toReal h2 h3).symm⟩
  have := wr_pos u t
  rw [← EReal.coe_toReal h2 h3] at this
  exact_mod_cast this

/-- Likewise their running sums. -/
theorem ws_real (h : epsC < edge u 0) {t : ℕ} (ht : t < 10) : ∃ r : ℝ, 0 < r ∧ ws u t = (r : EReal) := by
  induction t with
  | zero => simpa [ws] using wr_real u h ht
  | succ n ih =>
    obtain ⟨a, ha, e1⟩ := ih (by omega)
    obtain ⟨b, hb, e2⟩ := wr_real u h ht
    refine ⟨a + b, by positivity, ?_⟩
    rw [ws, Finset.sum_range_succ, ← ws, e1, e2, EReal.coe_add]

/-- Each right edge is a positive real, and the edges increase strictly. -/
theorem edge_lt (h : epsC < edge u 0) {t : ℕ} (ht : t + 1 < 10) : edge u t < edge u (t + 1) := by
  obtain ⟨a, ha, e1⟩ := ws_real u h (t := t) (by omega)
  obtain ⟨b, hb, e2⟩ := wr_real u h ht
  obtain ⟨n, hn, e3⟩ := ws_real u h (t := 9) (by omega)
  have hn0 : ((n : ℝ) : EReal) ≠ 0 := by exact_mod_cast hn.ne'
  have e4 : ws u (t + 1) = ((a + b : ℝ) : EReal) := by
    rw [ws, Finset.sum_range_succ, ← ws, e1, e2, EReal.coe_add]
  rw [edge, edge, total, e1, e4, e3, Ideal.div, Ideal.div, if_neg hn0, if_neg hn0, ← EReal.coe_inv, ← EReal.coe_mul,
    ← EReal.coe_mul, EReal.coe_lt_coe_iff]
  have : 0 < n⁻¹ := inv_pos.2 hn
  nlinarith

/-- The right edges increase. -/
theorem edge_mono (h : epsC < edge u 0) {s t : ℕ} (hst : s < t) (ht : t < 10) : edge u s < edge u t := by
  induction t with
  | zero => omega
  | succ n ih =>
    rcases Nat.lt_succ_iff_lt_or_eq.1 hst with h1 | rfl
    · exact (ih h1 (by omega)).trans (edge_lt u h ht)
    · exact edge_lt u h ht

/-- Every right edge is above the epsilon. -/
theorem eps_lt_edge (h : epsC < edge u 0) {t : ℕ} (ht : t < 10) : epsC < edge u t := by
  rcases Nat.eq_zero_or_pos t with rfl | h0
  · exact h
  · exact h.trans (edge_mono u h h0 ht)

/-- The epsilon is positive. -/
theorem eps_pos : (0 : EReal) < epsC := by
  obtain ⟨r, hr, hc⟩ := epsC_eq
  rw [hc]; exact_mod_cast hr

/-- A set of numbers below `n` closed downwards is an initial stretch. -/
theorem stretch (P : ℕ → Prop) [DecidablePred P] (n : ℕ) (hP : ∀ s t, s < t → t < n → P t → P s) {t : ℕ} (ht : t < n) :
    P t ↔ t < ((Finset.range n).filter P).card := by
  constructor
  · intro h
    have : Finset.range (t + 1) ⊆ (Finset.range n).filter P := fun s hs => by
      have hs' := Finset.mem_range.1 hs
      refine Finset.mem_filter.2 ⟨Finset.mem_range.2 (by omega), ?_⟩
      rcases Nat.lt_succ_iff_lt_or_eq.1 hs' with h1 | rfl
      · exact hP s t h1 ht h
      · exact h
    have := Finset.card_le_card this
    rw [Finset.card_range] at this
    omega
  · intro h
    by_contra hn
    have : (Finset.range n).filter P ⊆ Finset.range t := fun s hs => by
      obtain ⟨h1, h2⟩ := Finset.mem_filter.1 hs
      refine Finset.mem_range.2 (not_le.1 fun hle => hn ?_)
      rcases hle.eq_or_lt with rfl | h3
      · exact h2
      · exact hP t s h3 (Finset.mem_range.1 h1) h2
    have := Finset.card_le_card this
    rw [Finset.card_range] at this
    omega

/-- The selected bin is one of the ten. -/
theorem bin_le : bin u q ≤ 9 := (Finset.card_filter_le _ _).trans (by simp)

/-- The query is at or past right edge `t` exactly when the bin comes after `t`. -/
theorem edge_le_iff (h : epsC < edge u 0) {t : ℕ} (ht : t < 9) : edge u t ≤ q ↔ t < bin u q :=
  stretch (fun t => edge u t ≤ q) 9 (fun _ _ hst htn hq => (edge_mono u h hst (by omega)).le.trans hq) ht

/-! ## The bin as the first maximum of the masked edges -/

/-- The number of the ten right edges at most the query. -/
def past : ℕ := ((Finset.range 10).filter fun t => edge u t ≤ q).card

/-- At most ten right edges are at most the query. -/
theorem past_le : past u q ≤ 10 := (Finset.card_filter_le _ _).trans (by simp)

/-- The query is at or past right edge `t` exactly when more than `t` edges are. -/
theorem past_iff (h : epsC < edge u 0) {t : ℕ} (ht : t < 10) : edge u t ≤ q ↔ t < past u q :=
  stretch (fun t => edge u t ≤ q) 10 (fun _ _ hst htn hq => (edge_mono u h hst htn).le.trans hq) ht

/-- The bin is the number of edges reached, the last of them left out. -/
theorem bin_eq (h : epsC < edge u 0) : bin u q = min (past u q) 9 := by
  have h1 := bin_le u q
  have h2 := past_le u q
  refine le_antisymm (le_min ?_ h1) ?_
  · by_contra hlt
    have := (edge_le_iff u q h (t := past u q) (by omega)).2 (by omega)
    exact absurd ((past_iff u q h (by omega)).1 this) (lt_irrefl _)
  · by_contra hlt
    rw [not_le, lt_min_iff] at hlt
    have := (past_iff u q h (t := bin u q) (by omega)).2 hlt.1
    exact absurd ((edge_le_iff u q h hlt.2).1 this) (lt_irrefl _)

/-- The masked edges: the epsilon, then each right edge where the query has reached it and zero elsewhere. -/
def masked (t : ℕ) : EReal := if t < 1 then epsC else (if q < edge u (t - 1) then 0 else 1) * edge u (t - 1)

/-- The masked edges attain their maximum at one place only: after the last edge that the query has reached. -/
theorem masked_lt (h : epsC < edge u 0) {t : ℕ} (ht : t < 11) (hne : t ≠ past u q) :
    masked u q t < masked u q (past u q) := by
  have hp := past_le u q
  have key : ∀ s, 1 ≤ s → s ≤ past u q → masked u q s = edge u (s - 1) := fun s h1 h2 => by
    rw [masked, if_neg (by omega), if_neg (not_lt.2 ((past_iff u q h (by omega)).2 (by omega))), one_mul]
  have pos : epsC ≤ masked u q (past u q) := by
    rcases Nat.eq_zero_or_pos (past u q) with h0 | h0
    · rw [h0, masked, if_pos (by norm_num)]
    · rw [key _ h0 le_rfl]; exact (eps_lt_edge u h (by omega)).le
  rcases lt_or_gt_of_ne hne with hlt | hgt
  · rw [key _ (by omega) le_rfl]
    rcases Nat.eq_zero_or_pos t with rfl | h0
    · rw [masked, if_pos (by norm_num)]; exact eps_lt_edge u h (by omega)
    · rw [key t h0 hlt.le]; exact edge_mono u h (by omega) (by omega)
  · have : q < edge u (t - 1) := not_le.1 fun hle => by
      have := (past_iff u q h (by omega)).1 hle; omega
    rw [masked, if_neg (by omega), if_pos this, zero_mul]
    exact eps_pos.trans_le pos

/-- The masked edges attain their maximum at `past` alone. -/
theorem masked_eq_max (h : epsC < edge u 0) (t : Fin 11) :
    masked u q t = Finset.univ.fold max ⊥ (fun s : Fin 11 => masked u q s) ↔ (t : ℕ) = past u q := by
  have hp := past_le u q
  have hmax : Finset.univ.fold max ⊥ (fun s : Fin 11 => masked u q s) = masked u q (past u q) := by
    refine le_antisymm (Finset.fold_max_le _ |>.2 ⟨bot_le, fun s _ => ?_⟩)
      (Finset.le_fold_max _ |>.2 (Or.inr ⟨⟨past u q, by omega⟩, Finset.mem_univ _, le_rfl⟩))
    by_cases e : (s : ℕ) = past u q
    · rw [e]
    · exact (masked_lt u q h s.isLt e).le
  rw [hmax]
  refine ⟨fun e => ?_, fun e => by rw [e]⟩
  by_contra hne
  exact absurd e (masked_lt u q h t.isLt hne).ne

end Cert.Spline
-- ==== Proof.KernelAt.lean ====
/- The kernel body's values at a lane: what each of its named values is, at row `j` and column `n` of a block, as the
   spline's quantities of the conditioner's row. -/
module

public import proofs.«01_k».proof.Proof.Gen.KernelIdeal.Value
public import proofs.«01_k».proof.Proof.Spline

@[expose] public section

set_option maxRecDepth 16384

noncomputable section

namespace Cert.KernelIdeal.At

open Idealize.ShloMosaic Cert.KernelIdeal Cert.KernelIdeal.Gen Cert.Spline

/-! ## Selecting by steps -/

/-- One where the query has reached right edge `t`, else zero. -/
def step (u : ℕ → EReal) (q : EReal) (t : ℕ) : EReal := if edge u t ≤ q then 1 else 0

/-- One less one is zero, over the extended reals. -/
theorem one_sub_one : (1 : EReal) - 1 = 0 := by
  rw [← EReal.coe_one, ← EReal.coe_sub, sub_self, EReal.coe_zero]

/-- The one-hot sum over the ten bins picks the selected bin's entry. -/
theorem pick (u : ℕ → EReal) (q : EReal) (h : epsC < edge u 0) (a : ℕ → EReal) :
    (1 - step u q 0) * a 0 + (step u q 0 - step u q 1) * a 1 + (step u q 1 - step u q 2) * a 2
      + (step u q 2 - step u q 3) * a 3 + (step u q 3 - step u q 4) * a 4 + (step u q 4 - step u q 5) * a 5
      + (step u q 5 - step u q 6) * a 6 + (step u q 6 - step u q 7) * a 7 + (step u q 7 - step u q 8) * a 8
      + step u q 8 * a 9 = a (bin u q) := by
  have hm : ∀ t, t < 9 → step u q t = if t < bin u q then 1 else 0 := fun t ht => by
    rw [step]; simp only [edge_le_iff u q h ht]
  have hk := bin_le u q
  rw [hm 0 (by norm_num), hm 1 (by norm_num), hm 2 (by norm_num), hm 3 (by norm_num), hm 4 (by norm_num),
    hm 5 (by norm_num), hm 6 (by norm_num), hm 7 (by norm_num), hm 8 (by norm_num)]
  generalize bin u q = k at hk
  interval_cases k <;> simp [one_sub_one]

/-- The one-hot sum over the bins after the first picks the selected bin's left edge. -/
theorem pick_left (u : ℕ → EReal) (q : EReal) (h : epsC < edge u 0) :
    (step u q 0 - step u q 1) * edge u 0 + (step u q 1 - step u q 2) * edge u 1
      + (step u q 2 - step u q 3) * edge u 2 + (step u q 3 - step u q 4) * edge u 3 + (step u q 4 - step u q 5) * edge u 4
      + (step u q 5 - step u q 6) * edge u 5 + (step u q 6 - step u q 7) * edge u 6 + (step u q 7 - step u q 8) * edge u 7
      + step u q 8 * edge u 8 = leftEdge u (bin u q) := by
  have hm : ∀ t, t < 9 → step u q t = if t < bin u q then 1 else 0 := fun t ht => by
    rw [step]; simp only [edge_le_iff u q h ht]
  have hk := bin_le u q
  rw [hm 0 (by norm_num), hm 1 (by norm_num), hm 2 (by norm_num), hm 3 (by norm_num), hm 4 (by norm_num),
    hm 5 (by norm_num), hm 6 (by norm_num), hm 7 (by norm_num), hm 8 (by norm_num)]
  generalize bin u q = k at hk
  interval_cases k <;> simp [one_sub_one, leftEdge]

/-- The sum of the reached bins is the sum up to the selected bin. -/
theorem pick_sum (u : ℕ → EReal) (q : EReal) (h : epsC < edge u 0) (a : ℕ → EReal) :
    a 0 * step u q 0 + a 1 * step u q 1 + a 2 * step u q 2 + a 3 * step u q 3 + a 4 * step u q 4
      + a 5 * step u q 5 + a 6 * step u q 6 + a 7 * step u q 7 + a 8 * step u q 8
      = ∑ t ∈ Finset.range (bin u q), a t := by
  have hm : ∀ t, t < 9 → step u q t = if t < bin u q then 1 else 0 := fun t ht => by
    rw [step]; simp only [edge_le_iff u q h ht]
  have hk := bin_le u q
  rw [hm 0 (by norm_num), hm 1 (by norm_num), hm 2 (by norm_num), hm 3 (by norm_num), hm 4 (by norm_num),
    hm 5 (by norm_num), hm 6 (by norm_num), hm 7 (by norm_num), hm 8 (by norm_num)]
  generalize bin u q = k at hk
  interval_cases k <;> simp [Finset.sum_range_succ]

/-! ## The conditioner's row of a lane -/

/-- The conditioner's outputs of lane `(j, n)`: they stand in rows `8 t + j`. -/
def row (v : FVec Ideal S168x2048 .f32) (j : Fin 8) (n : Fin 2048) (t : ℕ) : EReal :=
  if h : 8 * t + (j : ℕ) < 168 then v (ix2 ⟨8 * t + j, h⟩ n) else 0

/-- A slice of eight rows of the last layer's output, at spline `j` and column `n`, is one of the spline's 21 numbers. -/
theorem row_at (v : FVec Ideal S168x2048 .f32) (j : Fin 8) (n : Fin 2048) (t : ℕ) (r : Fin 168)
    (h : (r : ℕ) = 8 * t + j) : v (ix2 r n) = row v j n t := by
  have hr : 8 * t + (j : ℕ) < 168 := h ▸ r.isLt
  have e : r = ⟨8 * t + j, hr⟩ := Fin.ext h
  rw [row, dif_pos hr, e]

/-- An unnormalised width computed from such a slice. -/
theorem wr_at (v : FVec Ideal S168x2048 .f32) (j : Fin 8) (n : Fin 2048) (t : ℕ) (r : Fin 168)
    (h : (r : ℕ) = 8 * (11 + t) + j) :
    max (Ideal.exp (v (ix2 r n))) (Ideal.ofBits .f32 0x358637BD#32) = wr (row v j n) t := by
  rw [row_at v j n _ r h]; rfl

/-- An unnormalised height computed from such a slice. -/
theorem vr_at (v : FVec Ideal S168x2048 .f32) (j : Fin 8) (n : Fin 2048) (t : ℕ) (r : Fin 168)
    (h : (r : ℕ) = 8 * t + j) : Ideal.exp (v (ix2 r n)) = vr (row v j n) t := by
  rw [row_at v j n _ r h]; rfl

variable (x0 : Vec Ideal S2048x16 .f32) (x1 : Vec Ideal S64x56 .f32) (x2 : Vec Ideal S64x1 .f32) (x3 : Vec Ideal S64x64 .f32) (x4 : Vec Ideal S64x1 .f32) (x5 : Vec Ideal S64x64 .f32) (x6 : Vec Ideal S64x1 .f32) (x7 : Vec Ideal S168x64 .f32) (x8 : Vec Ideal S168x1 .f32) (j : Fin 8) (n : Fin 2048)

/-- The conditioner's row that a block's lane reads. -/
abbrev U : ℕ → EReal := row (k0_pay108 x0 x1 x2 x3 x4 x5 x6 x7 x8) j n
/-- The query of a block's lane. -/
abbrev Q : EReal := k0_pay106 x0 x1 x2 x3 x4 x5 x6 x7 x8 (ix2 j n)

/-! ## The body's values, in the order of the body -/

theorem w0 : k0_pay109 x0 x1 x2 x3 x4 x5 x6 x7 x8 (ix2 j n) = wr (U x0 x1 x2 x3 x4 x5 x6 x7 x8 j n) 0 := by
  pointwise [k0_pay109, k0_pay9]; exact wr_at (k0_pay108 x0 x1 x2 x3 x4 x5 x6 x7 x8) j n 0 _ (by simp)

/-- The unnormalised width of bin 1. -/
theorem w1 : k0_pay110 x0 x1 x2 x3 x4 x5 x6 x7 x8 (ix2 j n) = wr (U x0 x1 x2 x3 x4 x5 x6 x7 x8 j n) 1 := by
  pointwise [k0_pay110, k0_pay10]; exact wr_at (k0_pay108 x0 x1 x2 x3 x4 x5 x6 x7 x8) j n 1 _ (by simp)

/-- The unnormalised width of bin 2. -/
theorem w2 : k0_pay12 (k0_pay111 x0 x1 x2 x3 x4 x5 x6 x7 x8) (Scalar.ofBits (F := Ideal) .f32 0x358637BD#32) (ix2 j n) = wr (U x0 x1 x2 x3 x4 x5 x6 x7 x8 j n) 2 := by
  pointwise [k0_pay111, k0_pay11, k0_pay12]; exact wr_at (k0_pay108 x0 x1 x2 x3 x4 x5 x6 x7 x8) j n 2 _ (by simp)

/-- The unnormalised width of bin 3. -/
theorem w3 : k0_pay13 (k0_pay108 x0 x1 x2 x3 x4 x5 x6 x7 x8) (ix2 j n) = wr (U x0 x1 x2 x3 x4 x5 x6 x7 x8 j n) 3 := by
  pointwise [k0_pay13]; exact wr_at (k0_pay108 x0 x1 x2 x3 x4 x5 x6 x7 x8) j n 3 _ (by simp)

/-- The unnormalised width of bin 4. -/
theorem w4 : k0_pay14 (k0_pay108 x0 x1 x2 x3 x4 x5 x6 x7 x8) (ix2 j n) = wr (U x0 x1 x2 x3 x4 x5 x6 x7 x8 j n) 4 := by
  pointwise [k0_pay14]; exact wr_at (k0_pay108 x0 x1 x2 x3 x4 x5 x6 x7 x8) j n 4 _ (by simp)

/-- The unnormalised width of bin 5. -/
theorem w5 : k0_pay15 (k0_pay108 x0 x1 x2 x3 x4 x5 x6 x7 x8) (ix2 j n) = wr (U x0 x1 x2 x3 x4 x5 x6 x7 x8 j n) 5 := by
  pointwise [k0_pay15]; exact wr_at (k0_pay108 x0 x1 x2 x3 x4 x5 x6 x7 x8) j n 5 _ (by simp)

/-- The unnormalised width of bin 6. -/
theorem w6 : k0_pay16 (k0_pay108 x0 x1 x2 x3 x4 x5 x6 x7 x8) (ix2 j n) = wr (U x0 x1 x2 x3 x4 x5 x6 x7 x8 j n) 6 := by
  pointwise [k0_pay16]; exact wr_at (k0_pay108 x0 x1 x2 x3 x4 x5 x6 x7 x8) j n 6 _ (by simp)

/-- The unnormalised width of bin 7. -/
theorem w7 : k0_pay17 (k0_pay108 x0 x1 x2 x3 x4 x5 x6 x7 x8) (ix2 j n) = wr (U x0 x1 x2 x3 x4 x5 x6 x7 x8 j n) 7 := by
  pointwise [k0_pay17]; exact wr_at (k0_pay108 x0 x1 x2 x3 x4 x5 x6 x7 x8) j n 7 _ (by simp)

/-- The unnormalised width of bin 8. -/
theorem w8 : k0_pay18 (k0_pay108 x0 x1 x2 x3 x4 x5 x6 x7 x8) (ix2 j n) = wr (U x0 x1 x2 x3 x4 x5 x6 x7 x8 j n) 8 := by
  pointwise [k0_pay18]; exact wr_at (k0_pay108 x0 x1 x2 x3 x4 x5 x6 x7 x8) j n 8 _ (by simp)

/-- The unnormalised width of bin 9. -/
theorem w9 : k0_pay19 (k0_pay108 x0 x1 x2 x3 x4 x5 x6 x7 x8) (ix2 j n) = wr (U x0 x1 x2 x3 x4 x5 x6 x7 x8 j n) 9 := by
  pointwise [k0_pay19]; exact wr_at (k0_pay108 x0 x1 x2 x3 x4 x5 x6 x7 x8) j n 9 _ (by simp)

/-- The unnormalised right edge of bin 1. -/
theorem s1 : k0_pay20 (k0_pay109 x0 x1 x2 x3 x4 x5 x6 x7 x8) (k0_pay110 x0 x1 x2 x3 x4 x5 x6 x7 x8) (ix2 j n) = ws (U x0 x1 x2 x3 x4 x5 x6 x7 x8 j n) 1 := by
  rw [k0_pay20, addf_apply, w0, w1, Ideal.addf_def]; simp only [ws, Finset.sum_range_succ, Finset.sum_range_zero, zero_add]

/-- The unnormalised right edge of bin 2. -/
theorem s2 : k0_pay21 (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 2 := by
  rw [k0_pay21, addf_apply, s1, w2, Ideal.addf_def, ws, ws, Finset.sum_range_succ _ 2]

/-- The unnormalised right edge of bin 3. -/
theorem s3 : k0_pay22 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 3 := by
  rw [k0_pay22, addf_apply, s2, w3, Ideal.addf_def, ws, ws, Finset.sum_range_succ _ 3]

/-- The unnormalised right edge of bin 4. -/
theorem s4 : k0_pay23 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 4 := by
  rw [k0_pay23, addf_apply, s3, w4, Ideal.addf_def, ws, ws, Finset.sum_range_succ _ 4]

/-- The unnormalised right edge of bin 5. -/
theorem s5 : k0_pay24 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 5 := by
  rw [k0_pay24, addf_apply, s4, w5, Ideal.addf_def, ws, ws, Finset.sum_range_succ _ 5]

/-- The unnormalised right edge of bin 6. -/
theorem s6 : k0_pay25 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 6 := by
  rw [k0_pay25, addf_apply, s5, w6, Ideal.addf_def, ws, ws, Finset.sum_range_succ _ 6]

/-- The unnormalised right edge of bin 7. -/
theorem s7 : k0_pay26 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 7 := by
  rw [k0_pay26, addf_apply, s6, w7, Ideal.addf_def, ws, ws, Finset.sum_range_succ _ 7]

/-- The unnormalised right edge of bin 8. -/
theorem s8 : k0_pay27 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = ws (U x0 x1 x2 x3 x4 x5 x6 x7 x8 j n) 8 := by
  rw [k0_pay27, addf_apply, s7, w8, Ideal.addf_def, ws, ws, Finset.sum_range_succ _ 8]

/-- The unnormalised width of bin 2, as later terms spell it. -/
theorem w2' : k0_pay12 (F := Ideal) (k0_pay111 x0 x1 x2 x3 x4 x5 x6 x7 x8) (Ideal.ofBits .f32 0x358637BD#32) (ix2 j n) = wr (U x0 x1 x2 x3 x4 x5 x6 x7 x8 j n) 2 := by
  exact w2 x0 x1 x2 x3 x4 x5 x6 x7 x8 j n

/-- The unnormalised right edge of bin 8, as later terms spell it. -/
theorem s8' : k0_pay27 (F := Ideal) (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Ideal.ofBits .f32 0x358637BD#32) (ix2 j n) = ws (U x0 x1 x2 x3 x4 x5 x6 x7 x8 j n) 8 := by
  exact s8 x0 x1 x2 x3 x4 x5 x6 x7 x8 j n

/-- The reciprocal of the total width. -/
theorem recip : k0_pay28 (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Scalar.ofBits (F := Ideal) .f32 0x358637BD#32) (ix2 j n) = Ideal.div 1 (total (U x0 x1 x2 x3 x4 x5 x6 x7 x8 j n)) := by
  have e : total (U x0 x1 x2 x3 x4 x5 x6 x7 x8 j n) = ws (U x0 x1 x2 x3 x4 x5 x6 x7 x8 j n) 8 + wr (U x0 x1 x2 x3 x4 x5 x6 x7 x8 j n) 9 := by rw [total, ws, ws, Finset.sum_range_succ _ 9]
  pointwise [k0_pay28]; rw [s8', w9, ← e]

/-- The same, with the literal read. -/
theorem recip2 : k0_pay28 (F := Ideal) (k0_pay108 x0 x1 x2 x3 x4 x5 x6 x7 x8) (k0_pay109 x0 x1 x2 x3 x4 x5 x6 x7 x8) (k0_pay110 x0 x1 x2 x3 x4 x5 x6 x7 x8) (k0_pay111 x0 x1 x2 x3 x4 x5 x6 x7 x8) (Ideal.ofBits .f32 0x358637BD#32) (ix2 j n) = Ideal.div 1 (total (U x0 x1 x2 x3 x4 x5 x6 x7 x8 j n)) := by
  exact recip x0 x1 x2 x3 x4 x5 x6 x7 x8 j n

/-- The same, under the name that later terms call it by. -/
theorem recip' : k0_pay112 x0 x1 x2 x3 x4 x5 x6 x7 x8 (ix2 j n) = Ideal.div 1 (total (U x0 x1 x2 x3 x4 x5 x6 x7 x8 j n)) := by
  exact recip x0 x1 x2 x3 x4 x5 x6 x7 x8 j n

/-- The right edge of bin 0. -/
theorem edge0 : k0_pay113 x0 x1 x2 x3 x4 x5 x6 x7 x8 (ix2 j n) = edge (U x0 x1 x2 x3 x4 x5 x6 x7 x8 j n) 0 := by
  rw [k0_pay113, k0_pay29, mulf_apply, w0, recip, Ideal.mulf_def]; rw [← edge_of_mul]; simp only [ws, zero_add, Finset.sum_range_one]

/-- The right edge of bin 1. -/
theorem edge1 : k0_pay114 x0 x1 x2 x3 x4 x5 x6 x7 x8 (ix2 j n) = edge (U x0 x1 x2 x3 x4 x5 x6 x7 x8 j n) 1 := by
  rw [k0_pay114, k0_pay30, mulf_apply, s1, recip, Ideal.mulf_def]; rw [edge_of_mul]

/-- The right edge of bin 2. -/
theorem edge2 : k0_pay115 x0 x1 x2 x3 x4 x5 x6 x7 x8 (ix2 j n) = edge (U x0 x1 x2 x3 x4 x5 x6 x7 x8 j n) 2 := by
  rw [k0_pay115, k0_pay31, mulf_apply, s2, recip, Ideal.mulf_def]; rw [edge_of_mul]

/-- The right edge of bin 3. -/
theorem edge3 : k0_pay116 x0 x1 x2 x3 x4 x5 x6 x7 x8 (ix2 j n) = edge (U x0 x1 x2 x3 x4 x5 x6 x7 x8 j n) 3 := by
  rw [k0_pay116, k0_pay32, mulf_apply, s3, recip, Ideal.mulf_def]; rw [edge_of_mul]

/-- The right edge of bin 4. -/
theorem edge4 : k0_pay117 x0 x1 x2 x3 x4 x5 x6 x7 x8 (ix2 j n) = edge (U x0 x1 x2 x3 x4 x5 x6 x7 x8 j n) 4 := by
  rw [k0_pay117, k0_pay33, mulf_apply, s4, recip, Ideal.mulf_def]; rw [edge_of_mul]

/-- The right edge of bin 5. -/
theorem edge5 : k0_pay118 x0 x1 x2 x3 x4 x5 x6 x7 x8 (ix2 j n) = edge (U x0 x1 x2 x3 x4 x5 x6 x7 x8 j n) 5 := by
  rw [k0_pay118, k0_pay34, mulf_apply, s5, recip, Ideal.mulf_def]; rw [edge_of_mul]

/-- The right edge of bin 6. -/
theorem edge6 : k0_pay119 x0 x1 x2 x3 x4 x5 x6 x7 x8 (ix2 j n) = edge (U x0 x1 x2 x3 x4 x5 x6 x7 x8 j n) 6 := by
  rw [k0_pay119, k0_pay35, mulf_apply, s6, recip, Ideal.mulf_def]; rw [edge_of_mul]

/-- The right edge of bin 7. -/
theorem edge7 : k0_pay120 x0 x1 x2 x3 x4 x5 x6 x7 x8 (ix2 j n) = edge (U x0 x1 x2 x3 x4 x5 x6 x7 x8 j n) 7 := by
  rw [k0_pay120, k0_pay36, mulf_apply, s7, recip, Ideal.mulf_def]; rw [edge_of_mul]

/-- The right edge of bin 8. -/
theorem edge8 : k0_pay121 x0 x1 x2 x3 x4 x5 x6 x7 x8 (ix2 j n) = edge (U x0 x1 x2 x3 x4 x5 x6 x7 x8 j n) 8 := by
  rw [k0_pay121, k0_pay37, mulf_apply, s8, recip, Ideal.mulf_def]; rw [edge_of_mul]

/-- The width of bin 0. -/
theorem wn0 : k0_pay122 x0 x1 x2 x3 x4 x5 x6 x7 x8 (ix2 j n) = wn (U x0 x1 x2 x3 x4 x5 x6 x7 x8 j n) 0 := by
  pointwise [k0_pay122, k0_pay39, k0_pay38]; rw [w0, recip2]; exact wn_of_mul _ _

/-- The width of bin 1. -/
theorem wn1 : k0_pay123 x0 x1 x2 x3 x4 x5 x6 x7 x8 (ix2 j n) = wn (U x0 x1 x2 x3 x4 x5 x6 x7 x8 j n) 1 := by
  pointwise [k0_pay123, k0_pay40]; rw [w1, recip']; exact wn_of_mul _ _

/-- The width of bin 2. -/
theorem wn2 : k0_pay124 x0 x1 x2 x3 x4 x5 x6 x7 x8 (ix2 j n) = wn (U x0 x1 x2 x3 x4 x5 x6 x7 x8 j n) 2 := by
  pointwise [k0_pay124, k0_pay41]; rw [w2', recip']; exact wn_of_mul _ _

/-- The width of bin 3. -/
theorem wn3 : k0_pay125 x0 x1 x2 x3 x4 x5 x6 x7 x8 (ix2 j n) = wn (U x0 x1 x2 x3 x4 x5 x6 x7 x8 j n) 3 := by
  pointwise [k0_pay125, k0_pay42]; rw [w3, recip']; exact wn_of_mul _ _

/-- The width of bin 4. -/
theorem wn4 : k0_pay126 x0 x1 x2 x3 x4 x5 x6 x7 x8 (ix2 j n) = wn (U x0 x1 x2 x3 x4 x5 x6 x7 x8 j n) 4 := by
  pointwise [k0_pay126, k0_pay43]; rw [w4, recip']; exact wn_of_mul _ _

/-- The width of bin 5. -/
theorem wn5 : k0_pay127 x0 x1 x2 x3 x4 x5 x6 x7 x8 (ix2 j n) = wn (U x0 x1 x2 x3 x4 x5 x6 x7 x8 j n) 5 := by
  pointwise [k0_pay127, k0_pay44]; rw [w5, recip']; exact wn_of_mul _ _

/-- The width of bin 6. -/
theorem wn6 : k0_pay128 x0 x1 x2 x3 x4 x5 x6 x7 x8 (ix2 j n) = wn (U x0 x1 x2 x3 x4 x5 x6 x7 x8 j n) 6 := by
  pointwise [k0_pay128, k0_pay45]; rw [w6, recip']; exact wn_of_mul _ _

/-- The width of bin 7. -/
theorem wn7 : k0_pay129 x0 x1 x2 x3 x4 x5 x6 x7 x8 (ix2 j n) = wn (U x0 x1 x2 x3 x4 x5 x6 x7 x8 j n) 7 := by
  pointwise [k0_pay129, k0_pay46]; rw [w7, recip']; exact wn_of_mul _ _

/-- The width of bin 8. -/
theorem wn8 : k0_pay130 x0 x1 x2 x3 x4 x5 x6 x7 x8 (ix2 j n) = wn (U x0 x1 x2 x3 x4 x5 x6 x7 x8 j n) 8 := by
  pointwise [k0_pay130, k0_pay47]; rw [w8, recip']; exact wn_of_mul _ _

/-- The width of bin 9. -/
theorem wn9 : k0_pay131 x0 x1 x2 x3 x4 x5 x6 x7 x8 (ix2 j n) = wn (U x0 x1 x2 x3 x4 x5 x6 x7 x8 j n) 9 := by
  pointwise [k0_pay131, k0_pay48]; rw [w9, recip']; exact wn_of_mul _ _

/-- The unnormalised height 0. -/
theorem v0 : k0_pay132 x0 x1 x2 x3 x4 x5 x6 x7 x8 (ix2 j n) = vr (U x0 x1 x2 x3 x4 x5 x6 x7 x8 j n) 0 := by
  pointwise [k0_pay132, k0_pay49]; exact vr_at (k0_pay108 x0 x1 x2 x3 x4 x5 x6 x7 x8) j n 0 _ (by simp)

/-- The unnormalised height 1. -/
theorem v1 : k0_pay133 x0 x1 x2 x3 x4 x5 x6 x7 x8 (ix2 j n) = vr (U x0 x1 x2 x3 x4 x5 x6 x7 x8 j n) 1 := by
  pointwise [k0_pay133, k0_pay50]; exact vr_at (k0_pay108 x0 x1 x2 x3 x4 x5 x6 x7 x8) j n 1 _ (by simp)

/-- The unnormalised height 2. -/
theorem v2 : k0_pay134 x0 x1 x2 x3 x4 x5 x6 x7 x8 (ix2 j n) = vr (U x0 x1 x2 x3 x4 x5 x6 x7 x8 j n) 2 := by
  pointwise [k0_pay134, k0_pay51]; exact vr_at (k0_pay108 x0 x1 x2 x3 x4 x5 x6 x7 x8) j n 2 _ (by simp)

/-- The unnormalised height 3. -/
theorem v3 : k0_pay135 x0 x1 x2 x3 x4 x5 x6 x7 x8 (ix2 j n) = vr (U x0 x1 x2 x3 x4 x5 x6 x7 x8 j n) 3 := by
  pointwise [k0_pay135, k0_pay52]; exact vr_at (k0_pay108 x0 x1 x2 x3 x4 x5 x6 x7 x8) j n 3 _ (by simp)

/-- The unnormalised height 4. -/
theorem v4 : k0_pay136 x0 x1 x2 x3 x4 x5 x6 x7 x8 (ix2 j n) = vr (U x0 x1 x2 x3 x4 x5 x6 x7 x8 j n) 4 := by
  pointwise [k0_pay136, k0_pay53]; exact vr_at (k0_pay108 x0 x1 x2 x3 x4 x5 x6 x7 x8) j n 4 _ (by simp)

/-- The unnormalised height 5. -/
theorem v5 : k0_pay137 x0 x1 x2 x3 x4 x5 x6 x7 x8 (ix2 j n) = vr (U x0 x1 x2 x3 x4 x5 x6 x7 x8 j n) 5 := by
  pointwise [k0_pay137, k0_pay54]; exact vr_at (k0_pay108 x0 x1 x2 x3 x4 x5 x6 x7 x8) j n 5 _ (by simp)

/-- The unnormalised height 6. -/
theorem v6 : k0_pay138 x0 x1 x2 x3 x4 x5 x6 x7 x8 (ix2 j n) = vr (U x0 x1 x2 x3 x4 x5 x6 x7 x8 j n) 6 := by
  pointwise [k0_pay138, k0_pay55]; exact vr_at (k0_pay108 x0 x1 x2 x3 x4 x5 x6 x7 x8) j n 6 _ (by simp)

/-- The unnormalised height 7. -/
theorem v7 : k0_pay139 x0 x1 x2 x3 x4 x5 x6 x7 x8 (ix2 j n) = vr (U x0 x1 x2 x3 x4 x5 x6 x7 x8 j n) 7 := by
  pointwise [k0_pay139, k0_pay56]; exact vr_at (k0_pay108 x0 x1 x2 x3 x4 x5 x6 x7 x8) j n 7 _ (by simp)

/-- The unnormalised height 8. -/
theorem v8 : k0_pay140 x0 x1 x2 x3 x4 x5 x6 x7 x8 (ix2 j n) = vr (U x0 x1 x2 x3 x4 x5 x6 x7 x8 j n) 8 := by
  pointwise [k0_pay140, k0_pay57]; exact vr_at (k0_pay108 x0 x1 x2 x3 x4 x5 x6 x7 x8) j n 8 _ (by simp)

/-- The unnormalised height 9. -/
theorem v9 : k0_pay141 x0 x1 x2 x3 x4 x5 x6 x7 x8 (ix2 j n) = vr (U x0 x1 x2 x3 x4 x5 x6 x7 x8 j n) 9 := by
  pointwise [k0_pay141, k0_pay58]; exact vr_at (k0_pay108 x0 x1 x2 x3 x4 x5 x6 x7 x8) j n 9 _ (by simp)

/-- The unnormalised height 10. -/
theorem v10 : k0_pay142 x0 x1 x2 x3 x4 x5 x6 x7 x8 (ix2 j n) = vr (U x0 x1 x2 x3 x4 x5 x6 x7 x8 j n) 10 := by
  pointwise [k0_pay142, k0_pay59]; exact vr_at (k0_pay108 x0 x1 x2 x3 x4 x5 x6 x7 x8) j n 10 _ (by simp)

/-- The area under the unnormalised spline. -/
theorem area_at : k0_pay143 x0 x1 x2 x3 x4 x5 x6 x7 x8 (ix2 j n) = area (U x0 x1 x2 x3 x4 x5 x6 x7 x8 j n) := by
  pointwise [k0_pay143, k0_pay60]; rw [v0, v1, v2, v3, v4, v5, v6, v7, v8, v9, v10, wn0, wn1, wn2, wn3, wn4, wn5, wn6, wn7, wn8, wn9]
  simp only [show Ideal.ofBits .f32 0x3F000000#32 = half from rfl, mul_half, area, Finset.sum_range_succ, Finset.sum_range_zero, zero_add]

/-- The normalised height 0. -/
theorem vn0 : k0_pay144 x0 x1 x2 x3 x4 x5 x6 x7 x8 (ix2 j n) = vn (U x0 x1 x2 x3 x4 x5 x6 x7 x8 j n) 0 := by
  pointwise [k0_pay144, k0_pay62, k0_pay61]; rw [v0, area_at]; exact vn_of_mul _ _

/-- The normalised height 1. -/
theorem vn1 : k0_pay145 x0 x1 x2 x3 x4 x5 x6 x7 x8 (ix2 j n) = vn (U x0 x1 x2 x3 x4 x5 x6 x7 x8 j n) 1 := by
  pointwise [k0_pay145, k0_pay63, k0_pay61]; rw [v1, area_at]; exact vn_of_mul _ _

/-- The normalised height 2. -/
theorem vn2 : k0_pay146 x0 x1 x2 x3 x4 x5 x6 x7 x8 (ix2 j n) = vn (U x0 x1 x2 x3 x4 x5 x6 x7 x8 j n) 2 := by
  pointwise [k0_pay146, k0_pay64, k0_pay61]; rw [v2, area_at]; exact vn_of_mul _ _

/-- The normalised height 3. -/
theorem vn3 : k0_pay147 x0 x1 x2 x3 x4 x5 x6 x7 x8 (ix2 j n) = vn (U x0 x1 x2 x3 x4 x5 x6 x7 x8 j n) 3 := by
  pointwise [k0_pay147, k0_pay65, k0_pay61]; rw [v3, area_at]; exact vn_of_mul _ _

/-- The normalised height 4. -/
theorem vn4 : k0_pay148 x0 x1 x2 x3 x4 x5 x6 x7 x8 (ix2 j n) = vn (U x0 x1 x2 x3 x4 x5 x6 x7 x8 j n) 4 := by
  pointwise [k0_pay148, k0_pay66, k0_pay61]; rw [v4, area_at]; exact vn_of_mul _ _

/-- The normalised height 5. -/
theorem vn5 : k0_pay149 x0 x1 x2 x3 x4 x5 x6 x7 x8 (ix2 j n) = vn (U x0 x1 x2 x3 x4 x5 x6 x7 x8 j n) 5 := by
  pointwise [k0_pay149, k0_pay67, k0_pay61]; rw [v5, area_at]; exact vn_of_mul _ _

/-- The normalised height 6. -/
theorem vn6 : k0_pay150 x0 x1 x2 x3 x4 x5 x6 x7 x8 (ix2 j n) = vn (U x0 x1 x2 x3 x4 x5 x6 x7 x8 j n) 6 := by
  pointwise [k0_pay150, k0_pay68, k0_pay61]; rw [v6, area_at]; exact vn_of_mul _ _

/-- The normalised height 7. -/
theorem vn7 : k0_pay151 x0 x1 x2 x3 x4 x5 x6 x7 x8 (ix2 j n) = vn (U x0 x1 x2 x3 x4 x5 x6 x7 x8 j n) 7 := by
  pointwise [k0_pay151, k0_pay69, k0_pay61]; rw [v7, area_at]; exact vn_of_mul _ _

/-- The normalised height 8. -/
theorem vn8 : k0_pay152 x0 x1 x2 x3 x4 x5 x6 x7 x8 (ix2 j n) = vn (U x0 x1 x2 x3 x4 x5 x6 x7 x8 j n) 8 := by
  pointwise [k0_pay152, k0_pay70, k0_pay61]; rw [v8, area_at]; exact vn_of_mul _ _

/-- The normalised height 9. -/
theorem vn9 : k0_pay153 x0 x1 x2 x3 x4 x5 x6 x7 x8 (ix2 j n) = vn (U x0 x1 x2 x3 x4 x5 x6 x7 x8 j n) 9 := by
  pointwise [k0_pay153, k0_pay71, k0_pay61]; rw [v9, area_at]; exact vn_of_mul _ _

/-- The normalised height 10. -/
theorem vn10 : k0_pay72 (k0_pay142 x0 x1 x2 x3 x4 x5 x6 x7 x8) (k0_pay143 x0 x1 x2 x3 x4 x5 x6 x7 x8) (Scalar.ofBits (F := Ideal) .f32 0x3F800000#32) (ix2 j n) = vn (U x0 x1 x2 x3 x4 x5 x6 x7 x8 j n) 10 := by
  pointwise [k0_pay72, k0_pay61]; rw [v10, area_at]; exact vn_of_mul _ _

/-- The normalised height 10, as later terms spell it. -/
theorem vn10' : k0_pay72 (k0_pay142 x0 x1 x2 x3 x4 x5 x6 x7 x8) (k0_pay143 x0 x1 x2 x3 x4 x5 x6 x7 x8) (1 : Ideal .f32) (ix2 j n) = vn (U x0 x1 x2 x3 x4 x5 x6 x7 x8 j n) 10 := by
  pointwise [k0_pay72, k0_pay61]; rw [v10, area_at]; exact vn_of_mul _ _

/-- The step at the right edge of bin 0. -/
theorem m0 : k0_pay154 x0 x1 x2 x3 x4 x5 x6 x7 x8 (ix2 j n) = step (U x0 x1 x2 x3 x4 x5 x6 x7 x8 j n) (Q x0 x1 x2 x3 x4 x5 x6 x7 x8 j n) 0 := by
  pointwise [k0_pay154, k0_pay73]; rw [edge0]; rfl

/-- The step at the right edge of bin 1. -/
theorem m1 : k0_pay155 x0 x1 x2 x3 x4 x5 x6 x7 x8 (ix2 j n) = step (U x0 x1 x2 x3 x4 x5 x6 x7 x8 j n) (Q x0 x1 x2 x3 x4 x5 x6 x7 x8 j n) 1 := by
  pointwise [k0_pay155, k0_pay74]; rw [edge1]; rfl

/-- The step at the right edge of bin 2. -/
theorem m2 : k0_pay76 (k0_pay156 x0 x1 x2 x3 x4 x5 x6 x7 x8) (Scalar.ofBits (F := Ideal) .f32 0x3F800000#32) (ix2 j n) = step (U x0 x1 x2 x3 x4 x5 x6 x7 x8 j n) (Q x0 x1 x2 x3 x4 x5 x6 x7 x8 j n) 2 := by
  pointwise [k0_pay156, k0_pay75, k0_pay76]; rw [edge2]; rfl

/-- The step at the right edge of bin 2, as later terms spell it. -/
theorem m2' : k0_pay76 (F := Ideal) (k0_pay156 x0 x1 x2 x3 x4 x5 x6 x7 x8) (1 : Ideal .f32) (ix2 j n) = step (U x0 x1 x2 x3 x4 x5 x6 x7 x8 j n) (Q x0 x1 x2 x3 x4 x5 x6 x7 x8 j n) 2 := by
  pointwise [k0_pay156, k0_pay75, k0_pay76]; rw [edge2]; rfl

/-- The step at the right edge of bin 3. -/
theorem m3 : k0_pay77 (k0_pay106 x0 x1 x2 x3 x4 x5 x6 x7 x8) (k0_pay116 x0 x1 x2 x3 x4 x5 x6 x7 x8) (ix2 j n) = step (U x0 x1 x2 x3 x4 x5 x6 x7 x8 j n) (Q x0 x1 x2 x3 x4 x5 x6 x7 x8 j n) 3 := by
  pointwise [k0_pay77]; rw [edge3]; rfl

/-- The step at the right edge of bin 4. -/
theorem m4 : k0_pay78 (k0_pay106 x0 x1 x2 x3 x4 x5 x6 x7 x8) (k0_pay117 x0 x1 x2 x3 x4 x5 x6 x7 x8) (ix2 j n) = step (U x0 x1 x2 x3 x4 x5 x6 x7 x8 j n) (Q x0 x1 x2 x3 x4 x5 x6 x7 x8 j n) 4 := by
  pointwise [k0_pay78]; rw [edge4]; rfl

/-- The step at the right edge of bin 5. -/
theorem m5 : k0_pay79 (k0_pay106 x0 x1 x2 x3 x4 x5 x6 x7 x8) (k0_pay118 x0 x1 x2 x3 x4 x5 x6 x7 x8) (ix2 j n) = step (U x0 x1 x2 x3 x4 x5 x6 x7 x8 j n) (Q x0 x1 x2 x3 x4 x5 x6 x7 x8 j n) 5 := by
  pointwise [k0_pay79]; rw [edge5]; rfl

/-- The step at the right edge of bin 6. -/
theorem m6 : k0_pay80 (k0_pay106 x0 x1 x2 x3 x4 x5 x6 x7 x8) (k0_pay119 x0 x1 x2 x3 x4 x5 x6 x7 x8) (ix2 j n) = step (U x0 x1 x2 x3 x4 x5 x6 x7 x8 j n) (Q x0 x1 x2 x3 x4 x5 x6 x7 x8 j n) 6 := by
  pointwise [k0_pay80]; rw [edge6]; rfl

/-- The step at the right edge of bin 7. -/
theorem m7 : k0_pay81 (k0_pay106 x0 x1 x2 x3 x4 x5 x6 x7 x8) (k0_pay120 x0 x1 x2 x3 x4 x5 x6 x7 x8) (ix2 j n) = step (U x0 x1 x2 x3 x4 x5 x6 x7 x8 j n) (Q x0 x1 x2 x3 x4 x5 x6 x7 x8 j n) 7 := by
  pointwise [k0_pay81]; rw [edge7]; rfl

/-- The step at the right edge of bin 8. -/
theorem m8 : k0_pay157 x0 x1 x2 x3 x4 x5 x6 x7 x8 (ix2 j n) = step (U x0 x1 x2 x3 x4 x5 x6 x7 x8 j n) (Q x0 x1 x2 x3 x4 x5 x6 x7 x8 j n) 8 := by
  pointwise [k0_pay157, k0_pay82]; rw [edge8]; rfl

/-- The step at the right edge of bin 8, as later terms spell it. -/
theorem m8' : k0_pay82 (k0_pay106 x0 x1 x2 x3 x4 x5 x6 x7 x8) (k0_pay121 x0 x1 x2 x3 x4 x5 x6 x7 x8) (ix2 j n) = step (U x0 x1 x2 x3 x4 x5 x6 x7 x8 j n) (Q x0 x1 x2 x3 x4 x5 x6 x7 x8 j n) 8 := by
  exact m8 x0 x1 x2 x3 x4 x5 x6 x7 x8 j n

/-- The one-hot weight of bin 2. -/
theorem e2 : k0_pay158 x0 x1 x2 x3 x4 x5 x6 x7 x8 (ix2 j n) = step (U x0 x1 x2 x3 x4 x5 x6 x7 x8 j n) (Q x0 x1 x2 x3 x4 x5 x6 x7 x8 j n) 1 - step (U x0 x1 x2 x3 x4 x5 x6 x7 x8 j n) (Q x0 x1 x2 x3 x4 x5 x6 x7 x8 j n) 2 := by
  rw [k0_pay158, k0_pay85, subf_apply, m1, m2, Ideal.subf_def]

/-- The one-hot weight of bin 3. -/
theorem e3 : k0_pay159 x0 x1 x2 x3 x4 x5 x6 x7 x8 (ix2 j n) = step (U x0 x1 x2 x3 x4 x5 x6 x7 x8 j n) (Q x0 x1 x2 x3 x4 x5 x6 x7 x8 j n) 2 - step (U x0 x1 x2 x3 x4 x5 x6 x7 x8 j n) (Q x0 x1 x2 x3 x4 x5 x6 x7 x8 j n) 3 := by
  rw [k0_pay159, k0_pay86, subf_apply, m2, m3, Ideal.subf_def]

/-- The one-hot weight of bin 4. -/
theorem e4 : k0_pay160 x0 x1 x2 x3 x4 x5 x6 x7 x8 (ix2 j n) = step (U x0 x1 x2 x3 x4 x5 x6 x7 x8 j n) (Q x0 x1 x2 x3 x4 x5 x6 x7 x8 j n) 3 - step (U x0 x1 x2 x3 x4 x5 x6 x7 x8 j n) (Q x0 x1 x2 x3 x4 x5 x6 x7 x8 j n) 4 := by
  rw [k0_pay160, k0_pay87, subf_apply, m3, m4, Ideal.subf_def]

/-- The one-hot weight of bin 5. -/
theorem e5 : k0_pay161 x0 x1 x2 x3 x4 x5 x6 x7 x8 (ix2 j n) = step (U x0 x1 x2 x3 x4 x5 x6 x7 x8 j n) (Q x0 x1 x2 x3 x4 x5 x6 x7 x8 j n) 4 - step (U x0 x1 x2 x3 x4 x5 x6 x7 x8 j n) (Q x0 x1 x2 x3 x4 x5 x6 x7 x8 j n) 5 := by
  rw [k0_pay161, k0_pay88, subf_apply, m4, m5, Ideal.subf_def]

/-- The one-hot weight of bin 6. -/
theorem e6 : k0_pay162 x0 x1 x2 x3 x4 x5 x6 x7 x8 (ix2 j n) = step (U x0 x1 x2 x3 x4 x5 x6 x7 x8 j n) (Q x0 x1 x2 x3 x4 x5 x6 x7 x8 j n) 5 - step (U x0 x1 x2 x3 x4 x5 x6 x7 x8 j n) (Q x0 x1 x2 x3 x4 x5 x6 x7 x8 j n) 6 := by
  rw [k0_pay162, k0_pay89, subf_apply, m5, m6, Ideal.subf_def]

/-- The one-hot weight of bin 7. -/
theorem e7 : k0_pay163 x0 x1 x2 x3 x4 x5 x6 x7 x8 (ix2 j n) = step (U x0 x1 x2 x3 x4 x5 x6 x7 x8 j n) (Q x0 x1 x2 x3 x4 x5 x6 x7 x8 j n) 6 - step (U x0 x1 x2 x3 x4 x5 x6 x7 x8 j n) (Q x0 x1 x2 x3 x4 x5 x6 x7 x8 j n) 7 := by
  rw [k0_pay163, k0_pay90, subf_apply, m6, m7, Ideal.subf_def]

/-- The one-hot weight of bin 8. -/
theorem e8 : k0_pay164 x0 x1 x2 x3 x4 x5 x6 x7 x8 (ix2 j n) = step (U x0 x1 x2 x3 x4 x5 x6 x7 x8 j n) (Q x0 x1 x2 x3 x4 x5 x6 x7 x8 j n) 7 - step (U x0 x1 x2 x3 x4 x5 x6 x7 x8 j n) (Q x0 x1 x2 x3 x4 x5 x6 x7 x8 j n) 8 := by
  rw [k0_pay164, k0_pay91, subf_apply, m7, m8', Ideal.subf_def]

/-- The one-hot sum of the widths is the selected bin's width. -/
theorem width_at (h : epsC < edge (U x0 x1 x2 x3 x4 x5 x6 x7 x8 j n) 0) : k0_pay165 x0 x1 x2 x3 x4 x5 x6 x7 x8 (ix2 j n) = wn (U x0 x1 x2 x3 x4 x5 x6 x7 x8 j n) (bin (U x0 x1 x2 x3 x4 x5 x6 x7 x8 j n) (Q x0 x1 x2 x3 x4 x5 x6 x7 x8 j n)) := by
  rw [← pick _ _ h (wn (U x0 x1 x2 x3 x4 x5 x6 x7 x8 j n))]
  pointwise [k0_pay165, k0_pay95, k0_pay92, k0_pay83, k0_pay84]
  rw [m0, m1, m8, e2, e3, e4, e5, e6, e7, e8, wn0, wn1, wn2, wn3, wn4, wn5, wn6, wn7, wn8, wn9]

/-- The one-hot sum of the left heights is the height at the selected bin's left edge. -/
theorem left_at (h : epsC < edge (U x0 x1 x2 x3 x4 x5 x6 x7 x8 j n) 0) : k0_pay166 x0 x1 x2 x3 x4 x5 x6 x7 x8 (ix2 j n) = vn (U x0 x1 x2 x3 x4 x5 x6 x7 x8 j n) (bin (U x0 x1 x2 x3 x4 x5 x6 x7 x8 j n) (Q x0 x1 x2 x3 x4 x5 x6 x7 x8 j n)) := by
  rw [← pick _ _ h (vn (U x0 x1 x2 x3 x4 x5 x6 x7 x8 j n))]
  pointwise [k0_pay166, k0_pay96, k0_pay93, k0_pay83, k0_pay84]
  rw [m0, m1, m8, e2, e3, e4, e5, e6, e7, e8, vn0, vn1, vn2, vn3, vn4, vn5, vn6, vn7, vn8, vn9]

/-- The one-hot sum of the right heights is the height at its right edge. -/
theorem right_at (h : epsC < edge (U x0 x1 x2 x3 x4 x5 x6 x7 x8 j n) 0) : k0_pay167 x0 x1 x2 x3 x4 x5 x6 x7 x8 (ix2 j n) = vn (U x0 x1 x2 x3 x4 x5 x6 x7 x8 j n) ((bin (U x0 x1 x2 x3 x4 x5 x6 x7 x8 j n) (Q x0 x1 x2 x3 x4 x5 x6 x7 x8 j n)) + 1) := by
  rw [← pick _ _ h (fun t => vn (U x0 x1 x2 x3 x4 x5 x6 x7 x8 j n) (t + 1))]
  pointwise [k0_pay167, k0_pay97, k0_pay94, k0_pay83, k0_pay84]
  rw [m0, m1, m8, e2, e3, e4, e5, e6, e7, e8, vn1, vn2, vn3, vn4, vn5, vn6, vn7, vn8, vn9, vn10']

/-- The one-hot sum of the shifted edges is the selected bin's left edge. -/
theorem shift_at (h : epsC < edge (U x0 x1 x2 x3 x4 x5 x6 x7 x8 j n) 0) : k0_pay168 x0 x1 x2 x3 x4 x5 x6 x7 x8 (ix2 j n) = leftEdge (U x0 x1 x2 x3 x4 x5 x6 x7 x8 j n) (bin (U x0 x1 x2 x3 x4 x5 x6 x7 x8 j n) (Q x0 x1 x2 x3 x4 x5 x6 x7 x8 j n)) := by
  rw [← pick_left _ _ h]
  pointwise [k0_pay168, k0_pay100, k0_pay99, k0_pay98, k0_pay84]
  rw [m0, m1, m8, e2, e3, e4, e5, e6, e7, e8, edge0, edge1, edge2, edge3, edge4, edge5, edge6, edge7, edge8]

end Cert.KernelIdeal.At

end
-- ==== Proof.Net.lean ====
/- The conditioner of one row, over the extended reals: the embedding, three leaky layers, and one output. -/
module

public import proofs.«01_k».proof.Proof.Spline

@[expose] public section

noncomputable section

namespace Cert.Net

open Idealize.ShloMosaic

/-- The literal `2`. -/
def c2 : EReal := Ideal.ofBits .f32 0x40000000#32
/-- The literal `4`. -/
def c4 : EReal := Ideal.ofBits .f32 0x40800000#32
/-- The slope below zero: the literal `0.01`. -/
def slope : EReal := Ideal.ofBits .f32 0x3C23D70A#32

/-- A leaky rectifier. -/
def leaky (z : EReal) : EReal := if 0 ≤ z then z else slope * z

/-- Entry `k` of the embedding of eight numbers: the numbers moved to `[-1, 1]`, then the sines and cosines of
    them, of twice them and of four times them. -/
def emb (f : Fin 8 → EReal) (k : Fin 56) : EReal :=
  if h : (k : ℕ) < 8 then f ⟨k, h⟩ * c2 - 1
  else if h : (k : ℕ) - 8 < 8 then Ideal.sin (f ⟨k - 8, h⟩ * c2 - 1)
  else if h : (k : ℕ) - 8 - 8 < 8 then Ideal.cos (f ⟨k - 8 - 8, h⟩ * c2 - 1)
  else if h : (k : ℕ) - 8 - 8 - 8 < 8 then Ideal.sin ((f ⟨k - 8 - 8 - 8, h⟩ * c2 - 1) * c2)
  else if h : (k : ℕ) - 8 - 8 - 8 - 8 < 8 then Ideal.cos ((f ⟨k - 8 - 8 - 8 - 8, h⟩ * c2 - 1) * c2)
  else if h : (k : ℕ) - 8 - 8 - 8 - 8 - 8 < 8 then Ideal.sin ((f ⟨k - 8 - 8 - 8 - 8 - 8, h⟩ * c2 - 1) * c4)
  else Ideal.cos ((f ⟨k - 8 - 8 - 8 - 8 - 8 - 8, by have := k.isLt; omega⟩ * c2 - 1) * c4)

/-- One output of an affine layer. -/
def dense {K : ℕ} (h : Fin K → EReal) (w : Fin K → EReal) (b : EReal) : EReal := (∑ k, h k * w k) + b

/-- The first layer's output `o`. -/
def first (f : Fin 8 → EReal) (w : Fin 56 → Fin 64 → EReal) (b : Fin 64 → EReal) (o : Fin 64) : EReal :=
  leaky (dense (emb f) (fun k => w k o) (b o))

/-- A further layer's output `o`. -/
def further (h : Fin 64 → EReal) (w : Fin 64 → Fin 64 → EReal) (b : Fin 64 → EReal) (o : Fin 64) : EReal :=
  leaky (dense h (fun k => w k o) (b o))

/-- The third layer's outputs. -/
def hidden (f : Fin 8 → EReal) (w1 : Fin 56 → Fin 64 → EReal) (b1 : Fin 64 → EReal) (w2 : Fin 64 → Fin 64 → EReal)
    (b2 : Fin 64 → EReal) (w3 : Fin 64 → Fin 64 → EReal) (b3 : Fin 64 → EReal) : Fin 64 → EReal :=
  further (further (first f w1 b1) w2 b2) w3 b3

variable (x : FVec Ideal ⟨2, ![262144, 16]⟩ .f32) (W1 : FVec Ideal ⟨2, ![56, 64]⟩ .f32) (b1 : FVec Ideal ⟨1, ![64]⟩ .f32)
  (W2 : FVec Ideal ⟨2, ![64, 64]⟩ .f32) (b2 : FVec Ideal ⟨1, ![64]⟩ .f32) (W3 : FVec Ideal ⟨2, ![64, 64]⟩ .f32)
  (b3 : FVec Ideal ⟨1, ![64]⟩ .f32) (W4 : FVec Ideal ⟨2, ![64, 168]⟩ .f32) (b4 : FVec Ideal ⟨1, ![168]⟩ .f32)

/-- The third layer's outputs on row `n` of the arguments. -/
def hiddenOf (n : Fin 262144) : Fin 64 → EReal :=
  hidden (fun i => x (ix2 n ⟨i, by have := i.isLt; omega⟩)) (fun k o => W1 (ix2 k o)) (fun o => b1 (ix1 o))
    (fun k o => W2 (ix2 k o)) (fun o => b2 (ix1 o)) (fun k o => W3 (ix2 k o)) (fun o => b3 (ix1 o))

/-- The conditioner's outputs for spline `j` of row `n`. -/
def lane (n : Fin 262144) (j : Fin 8) (t : ℕ) : EReal :=
  if h : t < 21 then
    dense (hiddenOf x W1 b1 W2 b2 W3 b3 n) (fun k => W4 (ix2 k ⟨j * 21 + t, by have := j.isLt; omega⟩))
      (b4 (ix1 ⟨j * 21 + t, by have := j.isLt; omega⟩))
  else 0

/-- The query of spline `j` of row `n`. -/
def query (n : Fin 262144) (j : Fin 8) : EReal := x (ix2 n ⟨8 + j, by have := j.isLt; omega⟩)

/-- The spline's value for spline `j` of row `n`, in the selected bin. -/
def valueOf (n : Fin 262144) (j : Fin 8) : EReal :=
  Spline.value (lane x W1 b1 W2 b2 W3 b3 W4 b4 n j) (query x n j)
    (Spline.bin (lane x W1 b1 W2 b2 W3 b3 W4 b4 n j) (query x n j))

/-- The sum over row `n`'s splines of the logarithms of their slopes. -/
def logSlopeOf (n : Fin 262144) : EReal :=
  ∑ j : Fin 8, Spline.logSlope (lane x W1 b1 W2 b2 W3 b3 W4 b4 n j) (query x n j)
    (Spline.bin (lane x W1 b1 W2 b2 W3 b3 W4 b4 n j) (query x n j))

/-- The first result: the row's first eight entries, then the splines' values. -/
def result (i : (⟨2, ![262144, 16]⟩ : Shape).Idx) : EReal :=
  if h : (i 1 : ℕ) < 8 then x i
  else valueOf x W1 b1 W2 b2 W3 b3 W4 b4 (i 0) ⟨(i 1 : ℕ) - 8, by have h1 : (i 1 : ℕ) < 16 := (i 1).isLt; omega⟩

/-- The second result: the logarithms of the slopes, summed per row. -/
def logs (i : (⟨2, ![1, 262144]⟩ : Shape).Idx) : EReal := logSlopeOf x W1 b1 W2 b2 W3 b3 W4 b4 (i 1)

end Cert.Net

end
-- ==== Proof.KernelOut.lean ====
/- The kernel body's two output blocks at an index, as functions of its input blocks. -/
module

public import proofs.«01_k».proof.Proof.KernelAt
public import proofs.«01_k».proof.Proof.Net
public import Idealize.ShloMosaic.Lib.Pipeline.ValueKit

@[expose] public section

set_option maxRecDepth 16384

noncomputable section

namespace Cert.KernelIdeal.At

open Idealize.ShloMosaic Cert.KernelIdeal Cert.KernelIdeal.Gen Cert.Spline Cert.Net

variable (x0 : Vec Ideal S2048x16 .f32) (x1 : Vec Ideal S64x56 .f32) (x2 : Vec Ideal S64x1 .f32) (x3 : Vec Ideal S64x64 .f32)
  (x4 : Vec Ideal S64x1 .f32) (x5 : Vec Ideal S64x64 .f32) (x6 : Vec Ideal S64x1 .f32) (x7 : Vec Ideal S168x64 .f32)
  (x8 : Vec Ideal S168x1 .f32)

/-- The third layer's outputs on column `n` of a block. -/
def hiddenK (n : Fin 2048) : Fin 64 → EReal :=
  hidden (fun i => x0 (ix2 n ⟨i, by have := i.isLt; omega⟩)) (fun k o => x1 (ix2 o k)) (fun o => x2 (ix2 o 0))
    (fun k o => x3 (ix2 o k)) (fun o => x4 (ix2 o 0)) (fun k o => x5 (ix2 o k)) (fun o => x6 (ix2 o 0))

/-- The first layer's outputs. -/
theorem first_at (o : Fin 64) (n : Fin 2048) : k0_pay107 x0 x1 x2 x3 x4 x5 x6 x7 x8 (ix2 o n)
    = first (fun i => x0 (ix2 n ⟨i, by have := i.isLt; omega⟩)) (fun k o => x1 (ix2 o k)) (fun o => x2 (ix2 o 0)) o := by
  pointwise [k0_pay107, k0_pay7, k0_pay5, k0_pay4]
  simp only [first, leaky, dense, mul_comm (emb _ _)]
  rfl

/-- The conditioner's outputs. -/
theorem row_of (r : Fin 168) (n : Fin 2048) : k0_pay108 x0 x1 x2 x3 x4 x5 x6 x7 x8 (ix2 r n)
    = dense (hiddenK x0 x1 x2 x3 x4 x5 x6 n) (fun k => x7 (ix2 r k)) (x8 (ix2 r 0)) := by
  pointwise [k0_pay108, k0_pay8]
  simp only [first_at, dense, hiddenK, Net.hidden, further, leaky]
  simp only [mul_comm (ite _ _ _), mul_comm (first _ _ _ _)]
  rfl

/-- Column `n`'s query in row `j`. -/
theorem query_of (j : Fin 8) (n : Fin 2048) :
    k0_pay106 x0 x1 x2 x3 x4 x5 x6 x7 x8 (ix2 j n) = x0 (ix2 n ⟨8 + j, by have := j.isLt; omega⟩) := by
  pointwise [k0_pay106, k0_pay6, k0_pay4]

/-- The second output block: the logarithms of the slopes, summed over the rows. -/
theorem out10_at (i : Fin 1) (n : Fin 2048) (h : ∀ j, epsC < edge (U x0 x1 x2 x3 x4 x5 x6 x7 x8 j n) 0) :
    out0_10 x0 x1 x2 x3 x4 x5 x6 x7 x8 (ix2 i n) = ∑ j : Fin 8, logSlope (U x0 x1 x2 x3 x4 x5 x6 x7 x8 j n) (Q x0 x1 x2 x3 x4 x5 x6 x7 x8 j n) (bin (U x0 x1 x2 x3 x4 x5 x6 x7 x8 j n) (Q x0 x1 x2 x3 x4 x5 x6 x7 x8 j n)) := by
  rw [out0_10, View.canon_cons_unit_lit _ _ _ (by decide)]
  pointwise [k0_pay2, k0_pay1]
  refine Finset.sum_congr rfl fun j _ => ?_
  rw [width_at _ _ _ _ _ _ _ _ _ _ _ (h j), left_at _ _ _ _ _ _ _ _ _ _ _ (h j), right_at _ _ _ _ _ _ _ _ _ _ _ (h j),
    shift_at _ _ _ _ _ _ _ _ _ _ _ (h j)]
  rfl

/-- The first output block: the row's first eight entries, then the splines' values. -/
theorem out9_at (n : Fin 2048) (i : Fin 16) (h : ∀ j, epsC < edge (U x0 x1 x2 x3 x4 x5 x6 x7 x8 j n) 0) :
    out0_9 x0 x1 x2 x3 x4 x5 x6 x7 x8 (ix2 n i) = if hi : (i : ℕ) < 8 then x0 (ix2 n i) else
      value (U x0 x1 x2 x3 x4 x5 x6 x7 x8 ⟨i - 8, by have := i.isLt; omega⟩ n) (Q x0 x1 x2 x3 x4 x5 x6 x7 x8 ⟨i - 8, by have := i.isLt; omega⟩ n)
        (bin (U x0 x1 x2 x3 x4 x5 x6 x7 x8 ⟨i - 8, by have := i.isLt; omega⟩ n) (Q x0 x1 x2 x3 x4 x5 x6 x7 x8 ⟨i - 8, by have := i.isLt; omega⟩ n)) := by
  rw [out0_9, View.canon_cons_unit_lit _ _ _ (by decide)]
  pointwise [k0_pay3, k0_pay1, k0_pay5, k0_pay4, k0_pay101, k0_pay102, k0_pay103, k0_pay104, k0_pay105]
  split
  · rfl
  · generalize hj : (⟨(i : ℕ) - 8, _⟩ : Fin 8) = j
    rw [value, ← pick_sum _ _ (h j)]
    rw [width_at _ _ _ _ _ _ _ _ _ _ _ (h j), left_at _ _ _ _ _ _ _ _ _ _ _ (h j), right_at _ _ _ _ _ _ _ _ _ _ _ (h j),
      shift_at _ _ _ _ _ _ _ _ _ _ _ (h j), m0, m1, m2', m3, m4, m5, m6, m7, m8, vn0, vn1, vn2, vn3, vn4, vn5, vn6, vn7, vn8, vn9,
      wn0, wn1, wn2, wn3, wn4, wn5, wn6, wn7, wn8]
    simp only [show Ideal.ofBits .f32 0x3F000000#32 = half from rfl, mul_half, dv]
    rw [mul_assoc (alpha _ _ _) (vn _ _) (wn _ _)]
    rfl

end Cert.KernelIdeal.At

end
-- ==== Proof.KernelRun.lean ====
/- The kernel's result arrays after a run, at the ideal values, as functions of the arguments. -/
module

public import proofs.«01_k».proof.Proof.KernelOut

@[expose] public section

set_option maxRecDepth 16384

noncomputable section

namespace Cert.KernelIdeal.At

open Idealize.ShloMosaic Idealize.ShloMosaic.TcCoe Cert.KernelIdeal Cert.KernelIdeal.Gen Cert.Spline Cert.Net
open Idealize.ShloMosaic.Pipeline (Dat)

variable (m : (ℓ : Loc nD τ sig) → Buf (Elt Ideal) ℓ) (c : Dev nD)

/-- The blocks' places: window 0 and both outputs move with the grid point, the other windows stay. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![0, t.val] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![0, t.val])

/-- The array row that column `n` of point `t`'s block is. -/
def place (t : Fin cfg0.N) (n : Fin 2048) : Fin 262144 :=
  ⟨t.val * 2048 + n, by have h1 : t.val < 128 := t.isLt; have := n.isLt; omega⟩

/-- The moving input block is the argument's rows. -/
theorem in0 (t : Fin cfg0.N) (n : Fin 2048) (i : Fin 16) :
    iblk m c 0 t (ix2 n i) = m ((c : Thread nD τ).loc main_arg0) (ix2 (place t n) i) := by
  blk_ext [iblk, V, place, (places t).1]

/-- The first layer's weights, transposed. -/
theorem in1 (t : Fin cfg0.N) (o : Fin 64) (k : Fin 56) :
    iblk m c 1 t (ix2 o k) = m ((c : Thread nD τ).loc main_arg1) (ix2 k o) := by
  blk_simp [iblk, (places t).2.1]; entry_read; pointwise
  blk_ext [iblk, (places t).2.1]

/-- The first layer's biases, as a column. -/
theorem in2 (t : Fin cfg0.N) (o : Fin 64) :
    iblk m c 2 t (ix2 o 0) = m ((c : Thread nD τ).loc main_arg2) (ix1 o) := by
  blk_simp [iblk, (places t).2.2.1]; entry_read; pointwise
  blk_ext [iblk, (places t).2.2.1]

/-- The second layer's weights, transposed. -/
theorem in3 (t : Fin cfg0.N) (o : Fin 64) (k : Fin 64) :
    iblk m c 3 t (ix2 o k) = m ((c : Thread nD τ).loc main_arg3) (ix2 k o) := by
  blk_simp [iblk, (places t).2.2.2.1]; entry_read; pointwise
  blk_ext [iblk, (places t).2.2.2.1]

/-- The second layer's biases, as a column. -/
theorem in4 (t : Fin cfg0.N) (o : Fin 64) :
    iblk m c 4 t (ix2 o 0) = m ((c : Thread nD τ).loc main_arg4) (ix1 o) := by
  blk_simp [iblk, (places t).2.2.2.2.1]; entry_read; pointwise
  blk_ext [iblk, (places t).2.2.2.2.1]

/-- The third layer's weights, transposed. -/
theorem in5 (t : Fin cfg0.N) (o : Fin 64) (k : Fin 64) :
    iblk m c 5 t (ix2 o k) = m ((c : Thread nD τ).loc main_arg5) (ix2 k o) := by
  blk_simp [iblk, (places t).2.2.2.2.2.1]; entry_read; pointwise
  blk_ext [iblk, (places t).2.2.2.2.2.1]

/-- The third layer's biases, as a column. -/
theorem in6 (t : Fin cfg0.N) (o : Fin 64) :
    iblk m c 6 t (ix2 o 0) = m ((c : Thread nD τ).loc main_arg6) (ix1 o) := by
  blk_simp [iblk, (places t).2.2.2.2.2.2.1]; entry_read; pointwise
  blk_ext [iblk, (places t).2.2.2.2.2.2.1]

/-- The last layer's weights, transposed and its outputs reordered. -/
theorem in7 (t : Fin cfg0.N) (o : Fin 168) (k : Fin 64) :
    iblk m c 7 t (ix2 o k) = m ((c : Thread nD τ).loc main_arg7) (ix2 k ⟨(o % 8) * 21 + o / 8, by omega⟩) := by
  blk_simp [iblk, (places t).2.2.2.2.2.2.2.1]; entry_read; pointwise
  blk_ext [iblk, (places t).2.2.2.2.2.2.2.1]

/-- The last layer's biases, reordered likewise. -/
theorem in8 (t : Fin cfg0.N) (o : Fin 168) :
    iblk m c 8 t (ix2 o 0) = m ((c : Thread nD τ).loc main_arg8) (ix1 ⟨(o % 8) * 21 + o / 8, by omega⟩) := by
  blk_simp [iblk, (places t).2.2.2.2.2.2.2.2.1]; entry_read; pointwise
  blk_ext [iblk, (places t).2.2.2.2.2.2.2.2.1]

/-- The third layer's outputs on a block's column are those of the row it is. -/
theorem hidden_eq (t : Fin cfg0.N) (n : Fin 2048) : hiddenK (iblk m c 0 t) (iblk m c 1 t) (iblk m c 2 t) (iblk m c 3 t) (iblk m c 4 t) (iblk m c 5 t) (iblk m c 6 t) n = hiddenOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (place t n) := by
  simp only [hiddenK, hiddenOf, in0, in1, in2, in3, in4, in5, in6]

/-- The conditioner's outputs on a block's column are those of the row it is. -/
theorem lane_eq (t : Fin cfg0.N) (j : Fin 8) (n : Fin 2048) :
    U (iblk m c 0 t) (iblk m c 1 t) (iblk m c 2 t) (iblk m c 3 t) (iblk m c 4 t) (iblk m c 5 t) (iblk m c 6 t) (iblk m c 7 t) (iblk m c 8 t) j n = lane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (place t n) j := by
  funext s
  by_cases hs : s < 21
  · have hr : 8 * s + j < 168 := by have := j.isLt; omega
    have e : (8 * s + (j : ℕ)) % 8 * 21 + (8 * s + j) / 8 = j * 21 + s := by have := j.isLt; omega
    rw [lane, dif_pos hs, U, ← row_at _ j n s ⟨8 * s + j, hr⟩ rfl, row_of, hidden_eq]
    simp only [in7, in8, e]
  · rw [lane, dif_neg hs, U, row, dif_neg (by omega)]

/-- A block's query is that of the row it is. -/
theorem query_eq (t : Fin cfg0.N) (j : Fin 8) (n : Fin 2048) :
    Q (iblk m c 0 t) (iblk m c 1 t) (iblk m c 2 t) (iblk m c 3 t) (iblk m c 4 t) (iblk m c 5 t) (iblk m c 6 t) (iblk m c 7 t) (iblk m c 8 t) j n = query (m ((c : Thread nD τ).loc main_arg0)) (place t n) j := by
  rw [Q, query_of, in0, query]

variable (h : ∀ n j, epsC < edge (lane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n j) 0)
include h

/-- The first result array. -/
theorem array9 : (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  obtain ⟨n, i, rfl⟩ : ∃ (n : Fin 2048) (i : Fin 16), y = ix2 n i := ⟨y 0, y 1, by ext k; fin_cases k <;> rfl⟩
  have e : (win0_9.blk t).view.emb (ix2 n i) = (ix2 (place t n) i : S262144x16.Idx) := by
    blk_ext [place, (places t).2.2.2.2.2.2.2.2.2.1]
  have g : ∀ j, epsC < edge (U (iblk m c 0 t) (iblk m c 1 t) (iblk m c 2 t) (iblk m c 3 t) (iblk m c 4 t) (iblk m c 5 t) (iblk m c 6 t) (iblk m c 7 t) (iblk m c 8 t) j n) 0 :=
    fun j => by rw [lane_eq]; exact h _ _
  blk_simp
  rw [after0_9, out9_at _ _ _ _ _ _ _ _ _ n i g, e]
  simp only [lane_eq, query_eq, in0]
  rfl

/-- The second result array. -/
theorem array10 : (dats m 0 c).arrAt 10 cfg0.N = logs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  obtain ⟨i, n, rfl⟩ : ∃ (i : Fin 1) (n : Fin 2048), y = ix2 i n := ⟨y 0, y 1, by ext k; fin_cases k <;> rfl⟩
  have e : (win0_10.blk t).view.emb (ix2 i n) = (ix2 i (place t n) : S1x262144.Idx) := by
    blk_ext [place, (places t).2.2.2.2.2.2.2.2.2.2]
  have g : ∀ j, epsC < edge (U (iblk m c 0 t) (iblk m c 1 t) (iblk m c 2 t) (iblk m c 3 t) (iblk m c 4 t) (iblk m c 5 t) (iblk m c 6 t) (iblk m c 7 t) (iblk m c 8 t) j n) 0 :=
    fun j => by rw [lane_eq]; exact h _ _
  blk_simp
  rw [after0_10, out10_at _ _ _ _ _ _ _ _ _ i n g, e]
  simp only [lane_eq, query_eq]
  rfl

end Cert.KernelIdeal.At

end
-- ==== Proof.RefOps.lean ====
/- The reference's running sum, its folds along the last axis and its row-wise reads, at an index. -/
module

public import proofs.«01_k».proof.Proof.Gen.ReferenceIdeal
public import Idealize.ShloMosaic.Lib.Pointwise

@[expose] public section

set_option maxRecDepth 16384

noncomputable section

namespace Cert.ReferenceIdeal.At

open Idealize.ShloMosaic Cert.ReferenceIdeal Cert.ReferenceIdeal.Gen

/-- A left fold of additions is the start plus the sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- Position `n` of a `[1, 1, K]` window is its index `(0, 0, n)`. -/
theorem window_at {K : ℕ} (n : Fin (⟨3, ![1, 1, K]⟩ : Shape).numel) (h : n.val < K) :
    (⟨3, ![1, 1, K]⟩ : Shape).rowMajor.symm n = ix3 (0 : Fin 1) (0 : Fin 1) (⟨n, h⟩ : Fin K) :=
  ((⟨3, ![1, 1, K]⟩ : Shape).rowMajor.symm_apply_eq).2 (Fin.ext (by
    rw [Shape.rowMajor_val_three]; simp))

/-- The running sum along the last axis of ten. -/
theorem running (x : FVec Ideal S262144x8x10 .f32) (init : FVec Ideal S_ .f32) (h) (hu) (hi : ∀ i, init i = 0)
    (n : Fin 262144) (j : Fin 8) (t : Fin 10) (f : ℕ → EReal) (hf : ∀ i : Fin 10, x (ix3 n j i) = f i) :
    Host.reduceWindowAdd (t := S262144x8x10) ![1, 1, 10] ![1, 1, 1] ![0, 0, 9] ![0, 0, 0] x init h hu (ix3 n j t)
      = ∑ i ∈ Finset.range (t + 1), f i := by
  rw [Host.reduceWindowAdd, Ideal.hostReduceWindowAdd_def, Ideal.hostReduceWindowAdd, hi]
  unfold Host.reduceWindow
  refine (foldl_add _ _ _).trans ?_
  rw [zero_add]
  refine (congrArg List.sum (List.map_congr_left (g := fun k => if 9 ≤ t.val + k.val then f (t.val + k.val - 9) else 0) fun k _ => ?_)).trans ?_
  · dsimp only
    have hk : k.val < 10 := k.isLt
    have w0 : ((⟨3, ![1, 1, 10]⟩ : Shape).rowMajor.symm k 0).val = 0 := by rw [window_at k hk]; rfl
    have w1 : ((⟨3, ![1, 1, 10]⟩ : Shape).rowMajor.symm k 1).val = 0 := by rw [window_at k hk]; rfl
    have w2 : ((⟨3, ![1, 1, 10]⟩ : Shape).rowMajor.symm k 2).val = k.val := by rw [window_at k hk]; rfl
    have ht := t.isLt
    by_cases h9 : 9 ≤ t.val + k.val
    · rw [if_pos h9, dif_pos]
      · refine (congrArg x ?_).trans (hf ⟨t + k - 9, by omega⟩)
        funext a
        match a with
        | ⟨0, _⟩ => exact Fin.ext (show n.val * 1 + ((⟨3, ![1, 1, 10]⟩ : Shape).rowMajor.symm k 0).val - 0 = n.val by omega)
        | ⟨1, _⟩ => exact Fin.ext (show j.val * 1 + ((⟨3, ![1, 1, 10]⟩ : Shape).rowMajor.symm k 1).val - 0 = j.val by omega)
        | ⟨2, _⟩ => exact Fin.ext (show t.val * 1 + ((⟨3, ![1, 1, 10]⟩ : Shape).rowMajor.symm k 2).val - 9 = t.val + k.val - 9 by omega)
      · intro a
        have hn := n.isLt
        have hj := j.isLt
        match a with
        | ⟨0, _⟩ => exact (show 0 ≤ n.val * 1 + ((⟨3, ![1, 1, 10]⟩ : Shape).rowMajor.symm k 0).val ∧ n.val * 1 + ((⟨3, ![1, 1, 10]⟩ : Shape).rowMajor.symm k 0).val - 0 < 262144 by omega)
        | ⟨1, _⟩ => exact (show 0 ≤ j.val * 1 + ((⟨3, ![1, 1, 10]⟩ : Shape).rowMajor.symm k 1).val ∧ j.val * 1 + ((⟨3, ![1, 1, 10]⟩ : Shape).rowMajor.symm k 1).val - 0 < 8 by omega)
        | ⟨2, _⟩ => exact (show 9 ≤ t.val * 1 + ((⟨3, ![1, 1, 10]⟩ : Shape).rowMajor.symm k 2).val ∧ t.val * 1 + ((⟨3, ![1, 1, 10]⟩ : Shape).rowMajor.symm k 2).val - 9 < 10 by omega)
    · rw [if_neg h9, dif_neg]
      intro hin
      have h2 : 9 ≤ t.val * 1 + ((⟨3, ![1, 1, 10]⟩ : Shape).rowMajor.symm k 2).val := (hin 2).1
      omega
  have hc : ∀ g : ℕ → EReal, ((List.finRange (⟨3, ![1, 1, 10]⟩ : Shape).numel).map fun k => g k.val).sum = ∑ k ∈ Finset.range 10, g k := fun g => by
    rw [Finset.sum_range g]
    exact (Fin.sum_univ_def fun k : Fin 10 => g k.val).symm
  refine (hc fun k => if 9 ≤ t.val + k then f (t.val + k - 9) else 0).trans ?_
  fin_cases t <;> simp [Finset.sum_range_succ]

/-- A read along the last axis of eleven at a word. -/
theorem gather11 (x : FVec Ideal S262144x8x11 .f32) (idx : IVec S262144x8x1x1 32) (n : Fin 262144) (j : Fin 8)
    (b : Fin 11) (hb : idx (ix4 n j 0 0) = BitVec.ofNat 32 b) :
    Host.gather gather_S262144x8x11_S262144x8x1x1_S262144x8x1_n_2_01_01_2_3_111 x idx (ix3 n j 0) = x (ix3 n j b) := by
  refine congrArg x (funext fun a => Fin.ext ?_)
  match a with
  | ⟨0, _⟩ =>
    show 0 + n.val + 0 = n.val
    omega
  | ⟨1, _⟩ =>
    show 0 + j.val + 0 = j.val
    omega
  | ⟨2, _⟩ =>
    have e : (gather_S262144x8x11_S262144x8x1x1_S262144x8x1_n_2_01_01_2_3_111.siIdx (ix3 n j 0) ⟨0, by decide⟩) = ix4 n j 0 0 := by
      funext a
      match a with
      | ⟨0, _⟩ => rfl
      | ⟨1, _⟩ => rfl
      | ⟨2, _⟩ => rfl
      | ⟨3, _⟩ => rfl
    show min (idx (gather_S262144x8x11_S262144x8x1x1_S262144x8x1_n_2_01_01_2_3_111.siIdx (ix3 n j 0) ⟨0, by decide⟩)).toInt.toNat (11 - 1) + 0 + 0 = b.val
    have hl := b.isLt
    have hw : ∀ b : Fin 11, (BitVec.ofNat 32 b).toInt.toNat = b := by decide
    rw [e, hb, hw]
    omega

/-- A read along the last axis of ten at a word. -/
theorem gather10 (x : FVec Ideal S262144x8x10 .f32) (idx : IVec S262144x8x1x1 32) (n : Fin 262144) (j : Fin 8)
    (b : Fin 10) (hb : idx (ix4 n j 0 0) = BitVec.ofNat 32 b) :
    Host.gather gather_S262144x8x10_S262144x8x1x1_S262144x8x1_n_2_01_01_2_3_111 x idx (ix3 n j 0) = x (ix3 n j b) := by
  refine congrArg x (funext fun a => Fin.ext ?_)
  match a with
  | ⟨0, _⟩ =>
    show 0 + n.val + 0 = n.val
    omega
  | ⟨1, _⟩ =>
    show 0 + j.val + 0 = j.val
    omega
  | ⟨2, _⟩ =>
    have e : (gather_S262144x8x10_S262144x8x1x1_S262144x8x1_n_2_01_01_2_3_111.siIdx (ix3 n j 0) ⟨0, by decide⟩) = ix4 n j 0 0 := by
      funext a
      match a with
      | ⟨0, _⟩ => rfl
      | ⟨1, _⟩ => rfl
      | ⟨2, _⟩ => rfl
      | ⟨3, _⟩ => rfl
    show min (idx (gather_S262144x8x10_S262144x8x1x1_S262144x8x1_n_2_01_01_2_3_111.siIdx (ix3 n j 0) ⟨0, by decide⟩)).toInt.toNat (10 - 1) + 0 + 0 = b.val
    have hl := b.isLt
    have hw : ∀ b : Fin 10, (BitVec.ofNat 32 b).toInt.toNat = b := by decide
    rw [e, hb, hw]
    omega

/-- A row-wise read along eleven entries at a nonnegative word below 11: the entry there. -/
theorem take11 (x : FVec Ideal S262144x8x11 .f32) (w : IVec S262144x8x1 32) (n : Fin 262144) (j : Fin 8) (b : Fin 11)
    (hw : w (ix3 n j 0) = BitVec.ofNat 32 b) :
    (shapeCast S262144x8 (Host.gather gather_S262144x8x11_S262144x8x1x1_S262144x8x1_n_2_01_01_2_3_111 x
      (shapeCast _ (select (cmpi .slt w (broadcastInDim S262144x8x1 ![] bcast_S_S262144x8x1 (constantI S_ 32 0#32)))
        (addi w (broadcastInDim S262144x8x1 ![] bcast_S_S262144x8x1 (constantI S_ 32 11#32))) w) shapeCasts_S262144x8x1_S262144x8x1x1))
      shapeCasts_S262144x8x1_S262144x8 : FVec Ideal S262144x8 .f32) (ix2 n j) = x (ix3 n j b) := by
  pointwise
  refine gather11 x _ n j b ?_
  pointwise
  rw [hw]
  clear hw
  revert b
  decide

/-- A row-wise read along ten entries at a nonnegative word below 10: the entry there. -/
theorem take10 (x : FVec Ideal S262144x8x10 .f32) (w : IVec S262144x8x1 32) (n : Fin 262144) (j : Fin 8) (b : Fin 10)
    (hw : w (ix3 n j 0) = BitVec.ofNat 32 b) :
    (shapeCast S262144x8 (Host.gather gather_S262144x8x10_S262144x8x1x1_S262144x8x1_n_2_01_01_2_3_111 x
      (shapeCast _ (select (cmpi .slt w (broadcastInDim S262144x8x1 ![] bcast_S_S262144x8x1 (constantI S_ 32 0#32)))
        (addi w (broadcastInDim S262144x8x1 ![] bcast_S_S262144x8x1 (constantI S_ 32 10#32))) w) shapeCasts_S262144x8x1_S262144x8x1x1))
      shapeCasts_S262144x8x1_S262144x8 : FVec Ideal S262144x8 .f32) (ix2 n j) = x (ix3 n j b) := by
  pointwise
  refine gather10 x _ n j b ?_
  pointwise
  rw [hw]
  clear hw
  revert b
  decide

end Cert.ReferenceIdeal.At

end
-- ==== Proof.ReferenceAt.lean ====
/- The reference's intermediate values at an index, at the ideal values: the conditioner, then the spline. -/
module

public import proofs.«01_k».proof.Proof.Gen.ReferenceIdeal.Run
public import proofs.«01_k».proof.Proof.Net
public import proofs.«01_k».proof.Proof.RefOps

@[expose] public section

set_option maxRecDepth 16384

noncomputable section

namespace Cert.ReferenceIdeal.At

open Idealize.ShloMosaic Idealize.ShloMosaic.StableHlo Cert.ReferenceIdeal Cert.ReferenceIdeal.Gen Cert.ReferenceIdeal.Value Cert.Spline Cert.Net

variable (V : Valuation τ sig (Elt Ideal)) (n : Fin 262144) (j : Fin 8)

/-- The conditioner's outputs for spline `j` of row `n`. -/
def L (n : Fin 262144) (j : Fin 8) : ℕ → EReal := lane (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) n j

/-- The query of spline `j` of row `n`. -/
def Q (n : Fin 262144) (j : Fin 8) : EReal := query (V (Proc.devRef .tc main_arg0)) n j

/-- The first layer before its rectifier. -/
theorem layer1 (o : Fin 64) : leaky (res_main_v28 V (ix2 n o))
    = first (fun i => (V (Proc.devRef .tc main_arg0) : FVec Ideal S262144x16 .f32) (ix2 n ⟨i, by have := i.isLt; omega⟩))
        (fun k o => (V (Proc.devRef .tc main_arg1) : FVec Ideal S56x64 .f32) (ix2 k o)) (fun o => (V (Proc.devRef .tc main_arg2) : FVec Ideal S64 .f32) (ix1 o)) o := by
  pointwise [res_main_v28, res_main_v5, res_main_v0]
  simp only [first, leaky, dense]
  rfl

/-- The rectifier as the program writes it. -/
theorem leaky_of (z : EReal) : (if 0 ≤ z then z else Ideal.ofBits .f32 0x3C23D70A#32 * z) = leaky z := rfl

/-- The second layer. -/
theorem layer2 (o : Fin 64) : leaky (res_main_v37 V (ix2 n o))
    = further (first (fun i => (V (Proc.devRef .tc main_arg0) : FVec Ideal S262144x16 .f32) (ix2 n ⟨i, by have := i.isLt; omega⟩)) (fun k o => (V (Proc.devRef .tc main_arg1) : FVec Ideal S56x64 .f32) (ix2 k o)) (fun o => (V (Proc.devRef .tc main_arg2) : FVec Ideal S64 .f32) (ix1 o)))
        (fun k o => (V (Proc.devRef .tc main_arg3) : FVec Ideal S64x64 .f32) (ix2 k o)) (fun o => (V (Proc.devRef .tc main_arg4) : FVec Ideal S64 .f32) (ix1 o)) o := by
  pointwise [res_main_v37]
  simp only [leaky_of, layer1]
  rfl

/-- The third layer. -/
theorem layer3 (o : Fin 64) : leaky (res_main_v46 V (ix2 n o)) = hiddenOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) n o := by
  pointwise [res_main_v46]
  simp only [leaky_of, layer2]
  rfl

/-- The last layer's output, by spline. -/
theorem row_at (t : Fin 21) : res_main_v56 V (ix3 n j t) = L V n j t := by
  pointwise [res_main_v56]
  simp only [leaky_of, layer3]
  rw [L, lane, dif_pos t.isLt]
  rfl
/-- The unnormalised widths. -/
theorem t61 (t : Fin 10) : res_main_v61 V (ix3 n j t) = wr (L V n j) t := by
  pointwise [res_main_v61]
  simp only [row_at]
  rfl
/-- Their running sums. -/
theorem t62 (t : Fin 10) : res_main_v62 V (ix3 n j t) = ws (L V n j) t := by
  unfold res_main_v62
  exact running _ _ _ _ (fun i => by pointwise) n j t (wr (L V n j)) (t61 V n j)
/-- The total width. -/
theorem t63 : res_main_v63 V (ix3 n j 0) = total (L V n j) := by
  pointwise [res_main_v63]
  rw [t62]
  rfl
/-- The floored widths. -/
theorem t67 (t : Fin 10) : res_main_v67 V (ix3 n j t) = wn (L V n j) t := by
  pointwise [res_main_v67]
  rw [t61, t63]
  rfl
/-- The right edges. -/
theorem t69 (t : Fin 10) : res_main_v69 V (ix3 n j t) = edge (L V n j) t := by
  pointwise [res_main_v69]
  rw [t62, t63]
  rfl
/-- The unnormalised heights. -/
theorem t72 (t : Fin 11) : res_main_v72 V (ix3 n j t) = vr (L V n j) t := by
  pointwise [res_main_v72]
  rw [row_at]
  rfl
/-- The floored heights. -/
theorem t84 (t : Fin 11) : res_main_v84 V (ix3 n j t) = vn (L V n j) t := by
  pointwise [res_main_v84]
  simp only [t72, t67, vn, area, Finset.sum_range, add_comm 1]
  rfl
/-- The masked edges, of which the program takes the first maximum. -/
theorem t92 (t : Fin 11) : res_main_v92 V (ix3 n j t) = masked (L V n j) (Q V n j) t := by
  unfold res_main_v92
  simp only [id]
  pointwise [res_main_v1]
  simp only [t69]
  rfl
/-- The maximum's initial value is minus infinity. -/
theorem neg_inf : Ideal.ofBits .f32 0xFF800000#32 = ⊥ := by
  simp [Ideal.ofBits, Ideal.ieee]
/-- The least index of a row whose one maximum is at `p`, clamped below ten. -/
theorem bin_word (p : Fin 11) : IntOp.minsi (9#32) (IntOp.maxsi (0#32)
    (Finset.univ.fold IntOp.minsi (2147483647#32) fun t : Fin 11 => if (t : ℕ) = p then BitVec.ofNat 32 t else 11#32))
    = BitVec.ofNat 32 (min p 9) := by
  revert p
  decide +kernel
/-- The first place at which a row's maximum is attained, clamped below ten: the selected bin. -/
theorem first_max (u : ℕ → EReal) (q : EReal) (h : epsC < edge u 0) (v : FVec Ideal S262144x8x11 .f32)
    (hv : ∀ t : Fin 11, v (ix3 n j t) = masked u q t) (t : Fin 1) :
    (minsi (broadcastInDim S262144x8x1 ![] bcast_S_S262144x8x1 (id (constantI S_ 32 9#32))) (maxsi (broadcastInDim S262144x8x1 ![] bcast_S_S262144x8x1 (id (constantI S_ 32 0#32))) (broadcastInDim S262144x8x1 ![0, 1] bcast_S262144x8_S262144x8x1_0_1 (Host.reduce IntOp.minsi (select (cmpf .oeq v (broadcastInDim S262144x8x11 ![0, 1, 2] bcast_S262144x8x1_S262144x8x11_0_1_2 (broadcastInDim S262144x8x1 ![0, 1] bcast_S262144x8_S262144x8x1_0_1 (Host.reduce FloatOps.maximumf v (constant S_ .f32 0xFF800000#32) reducesTo_S262144x8x11_S262144x8_d2 h_S_)))) (iotaInDim S262144x8x11 32 2) (broadcastInDim S262144x8x11 ![] bcast_S_S262144x8x11 (id (constantI S_ 32 11#32)))) (constantI S_ 32 2147483647#32) reducesTo_S262144x8x11_S262144x8_d2 h_S_))) : IVec S262144x8x1 32) (ix3 n j t) = BitVec.ofNat 32 (bin u q) := by
  simp only [id]
  pointwise
  simp only [neg_inf, hv]
  simp only [masked_eq_max _ _ h]
  rw [bin_eq _ _ h]
  exact bin_word ⟨past u q, Nat.lt_succ_of_le (past_le _ _)⟩

/-- The clamped ratio, entry by entry. -/
theorem ratio_at (q l w : FVec Ideal S262144x8 .f32) :
    (minimumf (broadcastInDim S262144x8 ![] bcast_S_S262144x8 (id (constant S_ .f32 0x3F800000#32)))
      (maximumf (broadcastInDim S262144x8 ![] bcast_S_S262144x8 (id (constant S_ .f32 0x00000000#32)))
        (Host.divf (subf q l) w)) : FVec Ideal S262144x8 .f32) (ix2 n j)
      = min 1 (max 0 (Ideal.div (q (ix2 n j) - l (ix2 n j)) (w (ix2 n j)))) := by
  simp only [id]
  pointwise

/-- The clamped quadratic, entry by entry. -/
theorem quadratic_at (a l r w c : FVec Ideal S262144x8 .f32) :
    (minimumf (broadcastInDim S262144x8 ![] bcast_S_S262144x8 (constant S_ .f32 0x3F7FFFFE#32))
      (maximumf (broadcastInDim S262144x8 ![] bcast_S_S262144x8 (constant S_ .f32 0x34000000#32))
        (addf (addf (mulf (Host.divf (mulf a a) (broadcastInDim S262144x8 ![] bcast_S_S262144x8 (constant S_ .f32 0x40000000#32)))
          (mulf (subf r l) w)) (mulf (mulf a l) w)) c)) : FVec Ideal S262144x8 .f32) (ix2 n j)
      = min topC (max epsC (Ideal.div (a (ix2 n j) * a (ix2 n j)) two * ((r (ix2 n j) - l (ix2 n j)) * w (ix2 n j))
          + a (ix2 n j) * l (ix2 n j) * w (ix2 n j) + c (ix2 n j))) := by
  pointwise
  rfl

/-- The joined halves, entry by entry. -/
theorem joined_at (a b : FVec Ideal S262144x8 .f32) (i : Fin 16) :
    (concatenate S262144x16 1 [⟨S262144x8, a⟩, ⟨S262144x8, b⟩] concatenates_S262144x8_S262144x8_S262144x16_d1 : FVec Ideal S262144x16 .f32) (ix2 n i)
      = if hi : (i : ℕ) < 8 then a (ix2 n ⟨i, hi⟩) else b (ix2 n ⟨i - 8, by have := i.isLt; omega⟩) := by
  pointwise

/-- The logarithms' sum, entry by entry. -/
theorem logs_sum (i : Fin 1) (l a r : FVec Ideal S262144x8 .f32) :
    (transpose S1x262144 [1, 0] (broadcastInDim S262144x1 ![0] bcast_S262144_S262144x1_0 (Host.reduceAdd (Host.log (addf l (mulf a (subf r l)))) (constant S_ .f32 0x00000000#32) reducesTo_S262144x8_S262144_d1 h_S_)) transposes_S262144x1_S1x262144_1_0 : FVec Ideal S1x262144 .f32) (ix2 i n)
      = ∑ j : Fin 8, Ideal.log (l (ix2 n j) + a (ix2 n j) * (r (ix2 n j) - l (ix2 n j))) := by
  pointwise

/-- The left edges: zero, then the right edges. -/
theorem left_at (t : Fin 11) : ((concatenate S262144x8x11 2 [⟨S262144x8x1, (res_main_v70 V)⟩, ⟨S262144x8x10, (res_main_v69 V)⟩] concatenates_S262144x8x1_S262144x8x10_S262144x8x11_d2) : FVec Ideal S262144x8x11 .f32) (ix3 n j t) = leftEdge (L V n j) t := by
  pointwise [res_main_v70]
  simp only [t69, leftEdge]
  by_cases ht : (t : ℕ) = 0
  · rw [dif_pos (by omega), if_pos ht]
  · rw [dif_neg (by omega), if_neg ht]

/-- The bins' areas. -/
theorem bars_at (t : Fin 10) : ((mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) : FVec Ideal S262144x8x10 .f32) (ix3 n j t) = dv (L V n j) t := by
  pointwise
  simp only [t84, t67, dv, add_comm 1]
  rfl

/-- The areas to the left of each bin. -/
theorem areas_at (t : Fin 11) : ((concatenate S262144x8x11 2 [⟨S262144x8x1, (res_main_v70 V)⟩, ⟨S262144x8x10, (Host.reduceWindowAdd ![1, 1, 10] ![1, 1, 1] ![0, 0, 9] ![0, 0, 0] (mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) (broadcastInDim S_ ![] bcast_S_S_ (constant S_ .f32 0x00000000#32)) reduceWindows_S262144x8x10_S262144x8x10_w1s1p0_0_w1s1p0_0_w10s1p9_0 h_S_)⟩] concatenates_S262144x8x1_S262144x8x10_S262144x8x11_d2) : FVec Ideal S262144x8x11 .f32) (ix3 n j t) = ∑ i ∈ Finset.range t, dv (L V n j) i := by
  have e : ∀ t : Fin 10, ((Host.reduceWindowAdd ![1, 1, 10] ![1, 1, 1] ![0, 0, 9] ![0, 0, 0] (mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) (broadcastInDim S_ ![] bcast_S_S_ (constant S_ .f32 0x00000000#32)) reduceWindows_S262144x8x10_S262144x8x10_w1s1p0_0_w1s1p0_0_w10s1p9_0 h_S_) : FVec Ideal S262144x8x10 .f32) (ix3 n j t) = ∑ i ∈ Finset.range (t + 1), dv (L V n j) i :=
    fun t => running _ _ _ _ (fun i => by pointwise) n j t (dv (L V n j)) (bars_at V n j)
  generalize (Host.reduceWindowAdd ![1, 1, 10] ![1, 1, 1] ![0, 0, 9] ![0, 0, 0] (mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) (broadcastInDim S_ ![] bcast_S_S_ (constant S_ .f32 0x00000000#32)) reduceWindows_S262144x8x10_S262144x8x10_w1s1p0_0_w1s1p0_0_w10s1p9_0 h_S_) = v at e
  pointwise [res_main_v70]
  by_cases ht : (t : ℕ) < 1
  · rw [dif_pos ht, show (t : ℕ) = 0 by omega, Finset.sum_range_zero]
  · rw [dif_neg ht]
    refine (e ⟨t - 1, _⟩).trans ?_
    rw [show (t : ℕ) - 1 + 1 = t by omega]

variable (h : epsC < edge (L V n j) 0)
include h
/-- The selected bin, as an index word. -/
theorem t101 (t : Fin 1) : res_main_v101 V (ix3 n j t) = BitVec.ofNat 32 (bin (L V n j) (Q V n j)) :=
  first_max n j _ _ h (res_main_v92 V) (t92 V n j) t

/-- The selected bin is below ten. -/
theorem bin_lt : bin (L V n j) (Q V n j) < 10 := Nat.lt_succ_of_le (bin_le _ _)

/-- The right neighbour's word. -/
theorem t120 : res_main_v120 V (ix3 n j 0) = BitVec.ofNat 32 (bin (L V n j) (Q V n j) + 1) := by
  pointwise [res_main_v120]
  rw [t101 V n j h]
  have hb := bin_lt V n j h
  generalize bin (L V n j) (Q V n j) = b at hb
  interval_cases b <;> rfl

/-- The height at the bin's left edge. -/
theorem t118 : res_main_v118 V (ix2 n j) = vn (L V n j) (bin (L V n j) (Q V n j)) :=
  (take11 (res_main_v84 V) _ n j ⟨_, (bin_lt V n j h).trans (by omega)⟩ (t101 V n j h 0)).trans (t84 V n j _)

/-- The height at its right edge. -/
theorem t122 : res_main_v122 V (ix2 n j) = vn (L V n j) (bin (L V n j) (Q V n j) + 1) :=
  (take11 (res_main_v84 V) _ n j ⟨_, Nat.succ_lt_succ (bin_lt V n j h)⟩ (t120 V n j h)).trans (t84 V n j _)

/-- The bin's width. -/
theorem t124 : res_main_v124 V (ix2 n j) = wn (L V n j) (bin (L V n j) (Q V n j)) :=
  (take10 (res_main_v67 V) _ n j ⟨_, bin_lt V n j h⟩ (t101 V n j h 0)).trans (t67 V n j _)

/-- The query's place in the bin. -/
theorem t108 : res_main_v108 V (ix2 n j) = alpha (L V n j) (Q V n j) (bin (L V n j) (Q V n j)) := by
  have e0 : res_main_v1 V (ix2 n j) = Q V n j := by
    pointwise [res_main_v1]
    rfl
  have e1 := (take11 (concatenate S262144x8x11 2 [⟨S262144x8x1, (res_main_v70 V)⟩, ⟨S262144x8x10, (res_main_v69 V)⟩] concatenates_S262144x8x1_S262144x8x10_S262144x8x11_d2) (res_main_v101 V)
    n j ⟨_, (bin_lt V n j h).trans (by omega)⟩ (t101 V n j h 0)).trans (left_at V n j _)
  exact (ratio_at n j (res_main_v1 V) _ _).trans (congrArg (min 1) (congrArg (max 0) (congrArg₂ Ideal.div (congrArg₂ (· - ·) e0 e1) (t124 V n j h))))

/-- The areas to the left of the bin. -/
theorem t138 : (shapeCast S262144x8 (Host.gather gather_S262144x8x11_S262144x8x1x1_S262144x8x1_n_2_01_01_2_3_111 (concatenate S262144x8x11 2 [⟨S262144x8x1, (res_main_v70 V)⟩, ⟨S262144x8x10, (Host.reduceWindowAdd ![1, 1, 10] ![1, 1, 1] ![0, 0, 9] ![0, 0, 0] (mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) (broadcastInDim S_ ![] bcast_S_S_ (constant S_ .f32 0x00000000#32)) reduceWindows_S262144x8x10_S262144x8x10_w1s1p0_0_w1s1p0_0_w10s1p9_0 h_S_)⟩] concatenates_S262144x8x1_S262144x8x10_S262144x8x11_d2)
      (shapeCast _ (select (cmpi .slt (res_main_v101 V) (broadcastInDim S262144x8x1 ![] bcast_S_S262144x8x1 (constantI S_ 32 0#32)))
        (addi (res_main_v101 V) (broadcastInDim S262144x8x1 ![] bcast_S_S262144x8x1 (constantI S_ 32 11#32))) (res_main_v101 V)) shapeCasts_S262144x8x1_S262144x8x1x1))
      shapeCasts_S262144x8x1_S262144x8 : FVec Ideal S262144x8 .f32) (ix2 n j) = ∑ i ∈ Finset.range (bin (L V n j) (Q V n j)), dv (L V n j) i :=
  (take11 _ _ n j ⟨_, (bin_lt V n j h).trans (by omega)⟩ (t101 V n j h 0)).trans (areas_at V n j _)

omit h in
/-- The first result. -/
theorem result_at (h : ∀ n j, epsC < edge (L V n j) 0) : (concatenate S262144x16 1 [⟨S262144x8, (res_main_v0 V)⟩, ⟨S262144x8, (minimumf (broadcastInDim S262144x8 ![] bcast_S_S262144x8 (constant S_ .f32 0x3F7FFFFE#32)) (maximumf (broadcastInDim S262144x8 ![] bcast_S_S262144x8 (constant S_ .f32 0x34000000#32)) (addf (addf (mulf (Host.divf (mulf (res_main_v108 V) (res_main_v108 V)) (broadcastInDim S262144x8 ![] bcast_S_S262144x8 (constant S_ .f32 0x40000000#32))) (mulf (subf (res_main_v122 V) (res_main_v118 V)) (res_main_v124 V))) (mulf (mulf (res_main_v108 V) (res_main_v118 V)) (res_main_v124 V))) (shapeCast _ (Host.gather gather_S262144x8x11_S262144x8x1x1_S262144x8x1_n_2_01_01_2_3_111 (concatenate S262144x8x11 2 [⟨S262144x8x1, (res_main_v70 V)⟩, ⟨S262144x8x10, (Host.reduceWindowAdd ![1, 1, 10] ![1, 1, 1] ![0, 0, 9] ![0, 0, 0] (mulf (Host.divf (addf (extractStridedSlice S262144x8x10 ![0, 0, 0] (res_main_v84 V) slices_S262144x8x11_S262144x8x10_0_0_0) (extractStridedSlice S262144x8x10 ![0, 0, 1] (res_main_v84 V) slices_S262144x8x11_S262144x8x10_0_0_1)) (broadcastInDim S262144x8x10 ![] bcast_S_S262144x8x10 (constant S_ .f32 0x40000000#32))) (res_main_v67 V)) (broadcastInDim S_ ![] bcast_S_S_ (constant S_ .f32 0x00000000#32)) reduceWindows_S262144x8x10_S262144x8x10_w1s1p0_0_w1s1p0_0_w10s1p9_0 h_S_)⟩] concatenates_S262144x8x1_S262144x8x10_S262144x8x11_d2) (shapeCast _ (select (cmpi .slt (res_main_v101 V) (broadcastInDim S262144x8x1 ![] bcast_S_S262144x8x1 (constantI S_ 32 0#32))) (addi (res_main_v101 V) (broadcastInDim S262144x8x1 ![] bcast_S_S262144x8x1 (constantI S_ 32 11#32))) (res_main_v101 V)) shapeCasts_S262144x8x1_S262144x8x1x1)) shapeCasts_S262144x8x1_S262144x8))))⟩] concatenates_S262144x8_S262144x8_S262144x16_d1 : FVec Ideal S262144x16 .f32) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  funext i
  obtain ⟨n, i, rfl⟩ : ∃ (n : Fin 262144) (k : Fin 16), i = ix2 n k := ⟨i 0, i 1, eq_ix2 i⟩
  refine (joined_at n (res_main_v0 V) _ i).trans ?_
  by_cases hi : (i : ℕ) < 8
  · rw [dif_pos hi]
    refine Eq.trans ?_ (dif_pos hi).symm
    pointwise [res_main_v0]
  · rw [dif_neg hi]
    refine Eq.trans ?_ (dif_neg hi).symm
    generalize hj : (⟨(i : ℕ) - 8, _⟩ : Fin 8) = j
    rw [quadratic_at, t108 V n j (h n j), t118 V n j (h n j), t122 V n j (h n j), t124 V n j (h n j), t138 V n j (h n j)]
    subst hj
    rfl

omit h in
/-- The second result. -/
theorem logs_at (h : ∀ n j, epsC < edge (L V n j) 0) : (transpose S1x262144 [1, 0] (broadcastInDim S262144x1 ![0] bcast_S262144_S262144x1_0 (Host.reduceAdd (Host.log (addf (res_main_v118 V) (mulf (res_main_v108 V) (subf (res_main_v122 V) (res_main_v118 V))))) (constant S_ .f32 0x00000000#32) reducesTo_S262144x8_S262144_d1 h_S_)) transposes_S262144x1_S1x262144_1_0 : FVec Ideal S1x262144 .f32) = logs (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  funext i
  obtain ⟨a, n, rfl⟩ : ∃ (a : Fin 1) (n : Fin 262144), i = ix2 a n := ⟨i 0, i 1, eq_ix2 i⟩
  refine (logs_sum n a (res_main_v118 V) (res_main_v108 V) (res_main_v122 V)).trans (show _ = ∑ j : Fin 8, logSlope (L V n j) (Q V n j) (bin (L V n j) (Q V n j)) from Finset.sum_congr rfl fun j _ => ?_)
  rw [t118 V n j (h n j), t122 V n j (h n j), t108 V n j (h n j)]
  rfl

end Cert.ReferenceIdeal.At

end
-- ==== Proof.Precond.lean ====
/- What the precondition says: every spline's first edge is above the float epsilon. -/
module

public import proofs.«01_k».proof.Proof.Gen.Pre_first_edge_above_eps
public import proofs.«01_k».proof.Proof.ReferenceAt

@[expose] public section

set_option maxRecDepth 16384

noncomputable section

namespace Cert.Pre_first_edge_above_eps.At

open Idealize.ShloMosaic Idealize.ShloMosaic.StableHlo Cert.Pre_first_edge_above_eps Cert.Pre_first_edge_above_eps.Gen Cert.Spline Cert.Net

/-- The test of one spline, from the exponentials of its ten outputs. -/
theorem test_at (v : FVec Ideal S262144x8x10 .f32) (n : Fin 262144) (j : Fin 8) :
    (cmpf .ogt (Host.divf (shapeCast S262144x8 (extractStridedSlice S262144x8x1 ![0, 0, 0] (maximumf v (broadcastInDim S262144x8x10 ![] bcast_S_S262144x8x10 (constant S_ .f32 0x358637BD#32))) slices_S262144x8x10_S262144x8x1_0_0_0) shapeCasts_S262144x8x1_S262144x8)
      (Host.reduceAdd (maximumf v (broadcastInDim S262144x8x10 ![] bcast_S_S262144x8x10 (constant S_ .f32 0x358637BD#32))) (constant S_ .f32 0x00000000#32) reducesTo_S262144x8x10_S262144x8_d2 h_S_))
      (broadcastInDim S262144x8 ![] bcast_S_S262144x8 (constant S_ .f32 0x34000000#32)) : IVec S262144x8 1) (ix2 n j)
      = BitVec.ofBool (decide (epsC < Ideal.div (max (v (ix3 n j 0)) floorC) (∑ t : Fin 10, max (v (ix3 n j t)) floorC))) := by
  pointwise
  rfl

/-- A conjunction over a list that is one: each of its bits is one. -/
theorem foldl_andi {α : Type} (f : α → BitVec 1) (l : List α) (a : BitVec 1) (h : l.foldl (fun r x => IntOp.andi r (f x)) a = 1#1) :
    a = 1#1 ∧ ∀ x ∈ l, f x = 1#1 := by
  induction l generalizing a with
  | nil => exact ⟨h, fun x hx => absurd hx (by simp)⟩
  | cons y l ih =>
    obtain ⟨e, k⟩ := ih _ h
    have e' : a = 1#1 ∧ f y = 1#1 := by
      have key : ∀ p q : BitVec 1, IntOp.andi p q = 1#1 → p = 1#1 ∧ q = 1#1 := by decide
      exact key _ _ e
    exact ⟨e'.1, fun x hx => (List.mem_cons.1 hx).elim (fun q => q ▸ e'.2) (k x)⟩

/-- The conjunction of a matrix of bits that is one: each of its bits is one. -/
theorem all_at (b : IVec S262144x8 1) (h : Host.reduce IntOp.andi b (constantI S_ 1 1#1) reducesTo_S262144x8_S_d0_1 h_S_ = fun _ => 1#1) (n : Fin 262144) (j : Fin 8) :
    b (ix2 n j) = 1#1 := by
  have e := congrFun h (fun a => a.elim0)
  unfold Host.reduce at e
  have k := (foldl_andi (fun n => b (S262144x8.rowMajor.symm n)) _ _ e).2 (S262144x8.rowMajor (ix2 n j))
    (List.mem_filter.2 ⟨List.mem_finRange _, decide_eq_true (funext fun a => a.elim0)⟩)
  rwa [Equiv.symm_apply_apply] at k

/-- The precondition's last part, from the exponentials: every spline passes its test. -/
theorem part3_at (v : FVec Ideal S262144x8x10 .f32) (h : fn_part3 (F := Ideal) v = fun _ => 1#1) (n : Fin 262144) (j : Fin 8) :
    epsC < Ideal.div (max (v (ix3 n j 0)) floorC) (∑ t : Fin 10, max (v (ix3 n j t)) floorC) := by
  unfold fn_part3 at h
  have k := (test_at v n j).symm.trans (all_at _ h n j)
  by_contra hn
  rw [decide_eq_false hn] at k
  exact absurd k (by decide)

/-- The precondition's network is the reference's. -/
theorem fn_eq (V : Valuation ReferenceIdeal.τ ReferenceIdeal.sig (Elt Ideal)) : fn (F := Ideal) (V (Proc.devRef .tc ReferenceIdeal.main_arg0)) (V (Proc.devRef .tc ReferenceIdeal.main_arg1)) (V (Proc.devRef .tc ReferenceIdeal.main_arg2)) (V (Proc.devRef .tc ReferenceIdeal.main_arg3)) (V (Proc.devRef .tc ReferenceIdeal.main_arg4)) (V (Proc.devRef .tc ReferenceIdeal.main_arg5)) (V (Proc.devRef .tc ReferenceIdeal.main_arg6)) (V (Proc.devRef .tc ReferenceIdeal.main_arg7)) (V (Proc.devRef .tc ReferenceIdeal.main_arg8))
    = fn_part3 (F := Ideal) (Host.exp (extractStridedSlice S262144x8x10 ![0, 0, 11] (ReferenceIdeal.Value.res_main_v56 V) slices_S262144x8x21_S262144x8x10_0_0_11)) := rfl

/-- Under the precondition the first edge of every spline is above the float epsilon. -/
theorem edge_above (V : Valuation ReferenceIdeal.τ ReferenceIdeal.sig (Elt Ideal)) (h : fn (F := Ideal) (V (Proc.devRef .tc ReferenceIdeal.main_arg0)) (V (Proc.devRef .tc ReferenceIdeal.main_arg1)) (V (Proc.devRef .tc ReferenceIdeal.main_arg2)) (V (Proc.devRef .tc ReferenceIdeal.main_arg3)) (V (Proc.devRef .tc ReferenceIdeal.main_arg4)) (V (Proc.devRef .tc ReferenceIdeal.main_arg5)) (V (Proc.devRef .tc ReferenceIdeal.main_arg6)) (V (Proc.devRef .tc ReferenceIdeal.main_arg7)) (V (Proc.devRef .tc ReferenceIdeal.main_arg8)) = fun _ => 1#1)
    (n : Fin 262144) (j : Fin 8) : epsC < edge (ReferenceIdeal.At.L V n j) 0 := by
  have k := part3_at _ ((fn_eq V).symm.trans h) n j
  have e : ∀ t : Fin 10, (Host.exp (extractStridedSlice S262144x8x10 ![0, 0, 11] (ReferenceIdeal.Value.res_main_v56 V) slices_S262144x8x21_S262144x8x10_0_0_11) : FVec Ideal S262144x8x10 .f32) (ix3 n j t)
      = Ideal.exp (ReferenceIdeal.At.L V n j (11 + t)) := fun t => by
    pointwise
    exact congrArg Ideal.exp (ReferenceIdeal.At.row_at V n j _)
  simp only [e] at k
  rw [edge, total, ws, ws, Finset.sum_range, Finset.sum_range]
  simpa [wr] using k

end Cert.Pre_first_edge_above_eps.At

end
-- ==== Proof.lean ====
/- The certificate of the coupling layer's kernel: its frames, its ideal program, and its two results against the
   reference's. The mathematics is in the modules under Proof/: Spline (one spline), Net (the conditioner and the two
   results), KernelAt, KernelOut and KernelRun (the kernel), RefOps and ReferenceAt (the reference), Precond (the
   precondition). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.KernelRun
public import proofs.«01_k».proof.Proof.ReferenceAt
public import proofs.«01_k».proof.Proof.Precond

public import proofs.«01_k».proof.Proof.Gen.ReferenceIdeal
public import proofs.«01_k».proof.Proof.Gen.Pre_first_edge_above_eps
public import Idealize.ShloMosaic.Adequacy
public import Idealize.ShloMosaic.Init

@[expose] public section

noncomputable section

namespace Cert.Proof

open Idealize.ShloMosaic Idealize.SL.Sem Cert.Kernel

/-- The reference's frame: it has no semaphore, and its run keeps its arguments. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's arguments at launch are the kernel's. -/
theorem launched (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    StableHlo.launchContents m' c (Proc.devRef .tc Cert.ReferenceIdeal.main_arg0) = m ((c.tc : Thread Cert.KernelIdeal.nD Cert.KernelIdeal.τ).loc Cert.KernelIdeal.main_arg0)
      ∧ StableHlo.launchContents m' c (Proc.devRef .tc Cert.ReferenceIdeal.main_arg1) = m ((c.tc : Thread Cert.KernelIdeal.nD Cert.KernelIdeal.τ).loc Cert.KernelIdeal.main_arg1)
      ∧ StableHlo.launchContents m' c (Proc.devRef .tc Cert.ReferenceIdeal.main_arg2) = m ((c.tc : Thread Cert.KernelIdeal.nD Cert.KernelIdeal.τ).loc Cert.KernelIdeal.main_arg2)
      ∧ StableHlo.launchContents m' c (Proc.devRef .tc Cert.ReferenceIdeal.main_arg3) = m ((c.tc : Thread Cert.KernelIdeal.nD Cert.KernelIdeal.τ).loc Cert.KernelIdeal.main_arg3)
      ∧ StableHlo.launchContents m' c (Proc.devRef .tc Cert.ReferenceIdeal.main_arg4) = m ((c.tc : Thread Cert.KernelIdeal.nD Cert.KernelIdeal.τ).loc Cert.KernelIdeal.main_arg4)
      ∧ StableHlo.launchContents m' c (Proc.devRef .tc Cert.ReferenceIdeal.main_arg5) = m ((c.tc : Thread Cert.KernelIdeal.nD Cert.KernelIdeal.τ).loc Cert.KernelIdeal.main_arg5)
      ∧ StableHlo.launchContents m' c (Proc.devRef .tc Cert.ReferenceIdeal.main_arg6) = m ((c.tc : Thread Cert.KernelIdeal.nD Cert.KernelIdeal.τ).loc Cert.KernelIdeal.main_arg6)
      ∧ StableHlo.launchContents m' c (Proc.devRef .tc Cert.ReferenceIdeal.main_arg7) = m ((c.tc : Thread Cert.KernelIdeal.nD Cert.KernelIdeal.τ).loc Cert.KernelIdeal.main_arg7)
      ∧ StableHlo.launchContents m' c (Proc.devRef .tc Cert.ReferenceIdeal.main_arg8) = m ((c.tc : Thread Cert.KernelIdeal.nD Cert.KernelIdeal.τ).loc Cert.KernelIdeal.main_arg8) := h

/-- The first edge of every spline is above the float epsilon, under the precondition, on every device. -/
theorem above (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_first_edge_above_eps m) (c : Dev Cert.KernelIdeal.nD)
    (e0 : StableHlo.launchContents m' c (Proc.devRef .tc Cert.ReferenceIdeal.main_arg0) = m ((c.tc : Thread Cert.KernelIdeal.nD Cert.KernelIdeal.τ).loc Cert.KernelIdeal.main_arg0))
    (e1 : StableHlo.launchContents m' c (Proc.devRef .tc Cert.ReferenceIdeal.main_arg1) = m ((c.tc : Thread Cert.KernelIdeal.nD Cert.KernelIdeal.τ).loc Cert.KernelIdeal.main_arg1))
    (e2 : StableHlo.launchContents m' c (Proc.devRef .tc Cert.ReferenceIdeal.main_arg2) = m ((c.tc : Thread Cert.KernelIdeal.nD Cert.KernelIdeal.τ).loc Cert.KernelIdeal.main_arg2))
    (e3 : StableHlo.launchContents m' c (Proc.devRef .tc Cert.ReferenceIdeal.main_arg3) = m ((c.tc : Thread Cert.KernelIdeal.nD Cert.KernelIdeal.τ).loc Cert.KernelIdeal.main_arg3))
    (e4 : StableHlo.launchContents m' c (Proc.devRef .tc Cert.ReferenceIdeal.main_arg4) = m ((c.tc : Thread Cert.KernelIdeal.nD Cert.KernelIdeal.τ).loc Cert.KernelIdeal.main_arg4))
    (e5 : StableHlo.launchContents m' c (Proc.devRef .tc Cert.ReferenceIdeal.main_arg5) = m ((c.tc : Thread Cert.KernelIdeal.nD Cert.KernelIdeal.τ).loc Cert.KernelIdeal.main_arg5))
    (e6 : StableHlo.launchContents m' c (Proc.devRef .tc Cert.ReferenceIdeal.main_arg6) = m ((c.tc : Thread Cert.KernelIdeal.nD Cert.KernelIdeal.τ).loc Cert.KernelIdeal.main_arg6))
    (e7 : StableHlo.launchContents m' c (Proc.devRef .tc Cert.ReferenceIdeal.main_arg7) = m ((c.tc : Thread Cert.KernelIdeal.nD Cert.KernelIdeal.τ).loc Cert.KernelIdeal.main_arg7))
    (e8 : StableHlo.launchContents m' c (Proc.devRef .tc Cert.ReferenceIdeal.main_arg8) = m ((c.tc : Thread Cert.KernelIdeal.nD Cert.KernelIdeal.τ).loc Cert.KernelIdeal.main_arg8))
    (n : Fin 262144) (j : Fin 8) : Spline.epsC < Spline.edge (Cert.ReferenceIdeal.At.L (StableHlo.launchContents m' c) n j) 0 := by
  refine Cert.Pre_first_edge_above_eps.At.edge_above (StableHlo.launchContents m' c) ?_ n j
  rw [e0, e1, e2, e3, e4, e5, e6, e7, e8]
  exact h c

/-- Kernel and reference end holding the same two results: `Net.result` and `Net.logs` of the arguments. -/
theorem algebraic : Cert.algebraic_KernelIdeal_ReferenceIdeal_pre_first_edge_above_eps := by
  intro m g m' g' hpre hag
  refine ⟨fun c => Net.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Net.logs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Value.run_blocks (F := Ideal) m g)
    obtain ⟨e0, e1, e2, e3, e4, e5, e6, e7, e8⟩ := launched m m' c (hag c)
    have k := above m m' hpre c e0 e1 e2 e3 e4 e5 e6 e7 e8
    unfold Cert.ReferenceIdeal.At.L at k
    rw [e0, e1, e2, e3, e4, e5, e6, e7, e8] at k
    exact ⟨(h c).1.trans (Cert.KernelIdeal.At.array9 m c k), (h c).2.1.trans (Cert.KernelIdeal.At.array10 m c k), (h c).2.2⟩
  · refine (θ_run Cert.ReferenceIdeal.defs _ _).mono (fun r h c => ?_) (Cert.ReferenceIdeal.Value.run (F := Ideal) m' g')
    obtain ⟨e0, e1, e2, e3, e4, e5, e6, e7, e8⟩ := launched m m' c (hag c)
    have k := above m m' hpre c e0 e1 e2 e3 e4 e5 e6 e7 e8
    have p := Cert.ReferenceIdeal.At.result_at (StableHlo.launchContents m' c) k
    have q := Cert.ReferenceIdeal.At.logs_at (StableHlo.launchContents m' c) k
    rw [e0, e1, e2, e3, e4, e5, e6, e7, e8] at p q
    exact ⟨(h c).1.trans p, (h c).2.1.trans q, (h c).2.2⟩

/-- The claims: the three frames, `preserves`, and `algebraic` under the precondition. -/
theorem claim : Cert.Claim := ⟨Cert.Kernel.Gen.facts, Cert.KernelIdeal.Gen.facts, Cert.ReferenceIdeal.Gen.facts, Cert.Pre_first_edge_above_eps.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
